-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_s" .f32 0x3CA3D70A#32 ((50⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x50 : Shape := ⟨2, ![4096, 50]⟩
abbrev S100000x128 : Shape := ⟨2, ![100000, 128]⟩
abbrev S128x1000 : Shape := ⟨2, ![128, 1000]⟩
abbrev S1000 : Shape := ⟨1, ![1000]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x128 .f32) (main_arg2 : FVec F S128x1000 .f32) (main_arg3 : FVec F S1000 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x128 : Shape := ⟨2, ![100000, 128]⟩
abbrev S128x1000 : Shape := ⟨2, ![128, 1000]⟩
abbrev S1000 : Shape := ⟨1, ![1000]⟩
abbrev S_ : Shape := ⟨0, ![]⟩
abbrev S4096x128 : Shape := ⟨2, ![4096, 128]⟩
abbrev S128x128 : Shape := ⟨2, ![128, 128]⟩
abbrev S8x50x128 : Shape := ⟨3, ![8, 50, 128]⟩
abbrev S8 : Shape := ⟨1, ![8]⟩
abbrev S1x50x128 : Shape := ⟨3, ![1, 50, 128]⟩
abbrev S50x128 : Shape := ⟨2, ![50, 128]⟩
abbrev S1x50 : Shape := ⟨2, ![1, 50]⟩
abbrev S50 : Shape := ⟨1, ![50]⟩
abbrev S1 : Shape := ⟨1, ![1]⟩
abbrev S16 : Shape := ⟨1, ![16]⟩
abbrev S1x1x16 : Shape := ⟨3, ![1, 1, 16]⟩
abbrev S1x16 : Shape := ⟨2, ![1, 16]⟩
abbrev S1000x128 : Shape := ⟨2, ![1000, 128]⟩
abbrev S1000x1 : Shape := ⟨2, ![1000, 1]⟩
abbrev S1000x4096 : Shape := ⟨2, ![1000, 4096]⟩
abbrev S2048x128 : Shape := ⟨2, ![2048, 128]⟩
abbrev S1000x2048 : Shape := ⟨2, ![1000, 2048]⟩
abbrev S4096x1000 : Shape := ⟨2, ![4096, 1000]⟩

abbrev nBuf : Table → Nat
  | .hbm => 12
  | .local .tc .vmem => 6
  | .local .scVector .vmem => 3
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S128x1000, .f32⟩
  | .hbm, ⟨3, _⟩ => ⟨S1000, .f32⟩
  | .hbm, ⟨4, _⟩ => ⟨S_, .i32⟩
  | .hbm, ⟨5, _⟩ => ⟨S_, .i32⟩
  | .hbm, ⟨6, _⟩ => ⟨S4096x128, .i32⟩
  | .hbm, ⟨7, _⟩ => ⟨S4096x128, .f32⟩
  | .hbm, ⟨8, _⟩ => ⟨S1000x128, .f32⟩
  | .hbm, ⟨9, _⟩ => ⟨S1000x1, .f32⟩
  | .hbm, ⟨10, _⟩ => ⟨S1000x4096, .f32⟩
  | .hbm, ⟨11, _⟩ => ⟨S4096x1000, .f32⟩
  | .local .tc .vmem, ⟨0, _⟩ => ⟨S1000x128, .f32⟩
  | .local .tc .vmem, ⟨1, _⟩ => ⟨S2048x128, .f32⟩
  | .local .tc .vmem, ⟨2, _⟩ => ⟨S2048x128, .f32⟩
  | .local .tc .vmem, ⟨3, _⟩ => ⟨S1000x1, .f32⟩
  | .local .tc .vmem, ⟨4, _⟩ => ⟨S1000x2048, .f32⟩
  | .local .tc .vmem, ⟨5, _⟩ => ⟨S1000x2048, .f32⟩
  | .local .scVector .vmem, ⟨0, _⟩ => ⟨S128x128, .i32⟩
  | .local .scVector .vmem, ⟨1, _⟩ => ⟨S8x50x128, .f32⟩
  | .local .scVector .vmem, ⟨2, _⟩ => ⟨S128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v0_scv : Ref sig .scVector := ⟨.hbm, 6, rfl⟩
abbrev main_arg1_scv : Ref sig .scVector := ⟨.hbm, 1, rfl⟩
abbrev main_v1_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_116_r0 : BitVec 32 := 0#32
  ![v2.toNat, 0]
def k0_off2 (c0_i32 : BitVec 32) : Fin 2 → Nat :=
  let c127_i32 : BitVec 32 := 127#32
  let v3 : BitVec 32 := Scalar.minsi c0_i32 c127_i32
  let c0_i32_4 : BitVec 32 := 0#32
  ![v3.toNat, 0]
@[reducible] def k0_t1_loop : Scf.Loop 32 :=
  let c0_i32_57 : BitVec 32 := 0#32
  let c16_i32 : BitVec 32 := 16#32
  let v59 : BitVec 32 := Scalar.addi c0_i32_57 c16_i32
  let c1_i32_58 : BitVec 32 := 1#32
  ⟨c0_i32_57, v59, c1_i32_58⟩
def k0_off3 (k0_t1 : Fin k0_t1_loop.trips) (c0_i32_116 : BitVec 32) : Fin 2 → Nat :=
  let c0_i32_57 : BitVec 32 := 0#32
  let c1_i32_58 : BitVec 32 := 1#32
  let arg9 : BitVec 32 := Scf.iv c0_i32_57 c1_i32_58 k0_t1
  let c8_i32 : BitVec 32 := 8#32
  let v109 : BitVec 32 := Scalar.muli arg9 c8_i32
  let v110 : BitVec 32 := Scalar.addi v109 c0_i32_116
  let c8_i32_117 : BitVec 32 := 8#32
  let v111 : BitVec 32 := Scalar.addi v110 c8_i32_117
  let c1_i32_118 : BitVec 32 := 1#32
  let v112 : BitVec 32 := Scalar.subi v111 c1_i32_118
  let c127_i32_119 : BitVec 32 := 127#32
  let v113 : BitVec 32 := Scalar.minsi v112 c127_i32_119
  let c0_i32_123 : BitVec 32 := 0#32
  ![v113.toNat, 0]
@[reducible] def k0_t2_loop : Scf.Loop 32 :=
  let c0_i32_142 : BitVec 32 := 0#32
  let c50_i32 : BitVec 32 := 50#32
  let v137 : BitVec 32 := Scalar.addi c0_i32_142 c50_i32
  let c1_i32_143 : BitVec 32 := 1#32
  ⟨c0_i32_142, v137, c1_i32_143⟩
def k0_off4 (k0_t2 : Fin k0_t2_loop.trips) : Fin 3 → Nat :=
  let c0_i32_425 : BitVec 32 := 0#32
  let v598 : Index := Scalar.indexCast c0_i32_425
  let c0_i32_142 : BitVec 32 := 0#32
  let c1_i32_143 : BitVec 32 := 1#32
  let arg10 : BitVec 32 := Scf.iv c0_i32_142 c1_i32_143 k0_t2
  let v599 : Index := Scalar.indexCast arg10
  let c0_426 : Index := 0#32
  ![0, v599.toNat, 0]
def k0_off5 (k0_t2 : Fin k0_t2_loop.trips) : Fin 3 → Nat :=
  let c0_i32_427 : BitVec 32 := 0#32
  let v603 : Index := Scalar.indexCast c0_i32_427
  let c0_i32_142 : BitVec 32 := 0#32
  let c1_i32_143 : BitVec 32 := 1#32
  let arg10 : BitVec 32 := Scf.iv c0_i32_142 c1_i32_143 k0_t2
  let v604 : Index := Scalar.indexCast arg10
  let c16_428 : Index := 16#32
  ![0, v604.toNat, 16]
def k0_off6 (k0_t2 : Fin k0_t2_loop.trips) : Fin 3 → Nat :=
  let c0_i32_429 : BitVec 32 := 0#32
  let v608 : Index := Scalar.indexCast c0_i32_429
  let c0_i32_142 : BitVec 32 := 0#32
  let c1_i32_143 : BitVec 32 := 1#32
  let arg10 : BitVec 32 := Scf.iv c0_i32_142 c1_i32_143 k0_t2
  let v609 : Index := Scalar.indexCast arg10
  let c32_430 : Index := 32#32
  ![0, v609.toNat, 32]
def k0_off7 (k0_t2 : Fin k0_t2_loop.trips) : Fin 3 → Nat :=
  let c0_i32_431 : BitVec 32 := 0#32
  let v613 : Index := Scalar.indexCast c0_i32_431
  let c0_i32_142 : BitVec 32 := 0#32
  let c1_i32_143 : BitVec 32 := 1#32
  let arg10 : BitVec 32 := Scf.iv c0_i32_142 c1_i32_143 k0_t2
  let v614 : Index := Scalar.indexCast arg10
  let c48_432 : Index := 48#32
  ![0, v614.toNat, 48]
def k0_off8 (k0_t2 : Fin k0_t2_loop.trips) : Fin 3 → Nat :=
  let c0_i32_433 : BitVec 32 := 0#32
  let v618 : Index := Scalar.indexCast c0_i32_433
  let c0_i32_142 : BitVec 32 := 0#32
  let c1_i32_143 : BitVec 32 := 1#32
  let arg10 : BitVec 32 := Scf.iv c0_i32_142 c1_i32_143 k0_t2
  let v619 : Index := Scalar.indexCast arg10
  let c64_434 : Index := 64#32
  ![0, v619.toNat, 64]
def k0_off9 (k0_t2 : Fin k0_t2_loop.trips) : Fin 3 → Nat :=
  let c0_i32_435 : BitVec 32 := 0#32
  let v623 : Index := Scalar.indexCast c0_i32_435
  let c0_i32_142 : BitVec 32 := 0#32
  let c1_i32_143 : BitVec 32 := 1#32
  let arg10 : BitVec 32 := Scf.iv c0_i32_142 c1_i32_143 k0_t2
  let v624 : Index := Scalar.indexCast arg10
  let c80_436 : Index := 80#32
  ![0, v624.toNat, 80]
def k0_off10 (k0_t2 : Fin k0_t2_loop.trips) : Fin 3 → Nat :=
  let c0_i32_437 : BitVec 32 := 0#32
  let v628 : Index := Scalar.indexCast c0_i32_437
  let c0_i32_142 : BitVec 32 := 0#32
  let c1_i32_143 : BitVec 32 := 1#32
  let arg10 : BitVec 32 := Scf.iv c0_i32_142 c1_i32_143 k0_t2
  let v629 : Index := Scalar.indexCast arg10
  let c96_438 : Index := 96#32
  ![0, v629.toNat, 96]
def k0_off11 (k0_t2 : Fin k0_t2_loop.trips) : Fin 3 → Nat :=
  let c0_i32_439 : BitVec 32 := 0#32
  let v633 : Index := Scalar.indexCast c0_i32_439
  let c0_i32_142 : BitVec 32 := 0#32
  let c1_i32_143 : BitVec 32 := 1#32
  let arg10 : BitVec 32 := Scf.iv c0_i32_142 c1_i32_143 k0_t2
  let v634 : Index := Scalar.indexCast arg10
  let c112_440 : Index := 112#32
  ![0, v634.toNat, 112]
def k0_off12 (k0_t1 : Fin k0_t1_loop.trips) (c0_i32_134 : BitVec 32) : Fin 2 → Nat :=
  let c0_i32_57 : BitVec 32 := 0#32
  let c1_i32_58 : BitVec 32 := 1#32
  let arg9 : BitVec 32 := Scf.iv c0_i32_57 c1_i32_58 k0_t1
  let c8_i32 : BitVec 32 := 8#32
  let v109 : BitVec 32 := Scalar.muli arg9 c8_i32
  let v128 : BitVec 32 := Scalar.addi v109 c0_i32_134
  let v139 : Index := Scalar.indexCast v128
  let c0 : Index := 0#32
  ![v139.toNat, 0]
def k0_off13 (k0_t1 : Fin k0_t1_loop.trips) (c0_i32_134 : BitVec 32) : Fin 2 → Nat :=
  let c0_i32_57 : BitVec 32 := 0#32
  let c1_i32_58 : BitVec 32 := 1#32
  let arg9 : BitVec 32 := Scf.iv c0_i32_57 c1_i32_58 k0_t1
  let c8_i32 : BitVec 32 := 8#32
  let v109 : BitVec 32 := Scalar.muli arg9 c8_i32
  let v128 : BitVec 32 := Scalar.addi v109 c0_i32_134
  let v143 : Index := Scalar.indexCast v128
  let c16 : Index := 16#32
  ![v143.toNat, 16]
def k0_off14 (k0_t1 : Fin k0_t1_loop.trips) (c0_i32_134 : BitVec 32) : Fin 2 → Nat :=
  let c0_i32_57 : BitVec 32 := 0#32
  let c1_i32_58 : BitVec 32 := 1#32
  let arg9 : BitVec 32 := Scf.iv c0_i32_57 c1_i32_58 k0_t1
  let c8_i32 : BitVec 32 := 8#32
  let v109 : BitVec 32 := Scalar.muli arg9 c8_i32
  let v128 : BitVec 32 := Scalar.addi v109 c0_i32_134
  let v147 : Index := Scalar.indexCast v128
  let c32 : Index := 32#32
  ![v147.toNat, 32]
def k0_off15 (k0_t1 : Fin k0_t1_loop.trips) (c0_i32_134 : BitVec 32) : Fin 2 → Nat :=
  let c0_i32_57 : BitVec 32 := 0#32
  let c1_i32_58 : BitVec 32 := 1#32
  let arg9 : BitVec 32 := Scf.iv c0_i32_57 c1_i32_58 k0_t1
  let c8_i32 : BitVec 32 := 8#32
  let v109 : BitVec 32 := Scalar.muli arg9 c8_i32
  let v128 : BitVec 32 := Scalar.addi v109 c0_i32_134
  let v151 : Index := Scalar.indexCast v128
  let c48 : Index := 48#32
  ![v151.toNat, 48]
def k0_off16 (k0_t1 : Fin k0_t1_loop.trips) (c0_i32_134 : BitVec 32) : Fin 2 → Nat :=
  let c0_i32_57 : BitVec 32 := 0#32
  let c1_i32_58 : BitVec 32 := 1#32
  let arg9 : BitVec 32 := Scf.iv c0_i32_57 c1_i32_58 k0_t1
  let c8_i32 : BitVec 32 := 8#32
  let v109 : BitVec 32 := Scalar.muli arg9 c8_i32
  let v128 : BitVec 32 := Scalar.addi v109 c0_i32_134
  let v155 : Index := Scalar.indexCast v128
  let c64 : Index := 64#32
  ![v155.toNat, 64]
def k0_off17 (k0_t1 : Fin k0_t1_loop.trips) (c0_i32_134 : BitVec 32) : Fin 2 → Nat :=
  let c0_i32_57 : BitVec 32 := 0#32
  let c1_i32_58 : BitVec 32 := 1#32
  let arg9 : BitVec 32 := Scf.iv c0_i32_57 c1_i32_58 k0_t1
  let c8_i32 : BitVec 32 := 8#32
  let v109 : BitVec 32 := Scalar.muli arg9 c8_i32
  let v128 : BitVec 32 := Scalar.addi v109 c0_i32_134
  let v159 : Index := Scalar.indexCast v128
  let c80 : Index := 80#32
  ![v159.toNat, 80]
def k0_off18 (k0_t1 : Fin k0_t1_loop.trips) (c0_i32_134 : BitVec 32) : Fin 2 → Nat :=
  let c0_i32_57 : BitVec 32 := 0#32
  let c1_i32_58 : BitVec 32 := 1#32
  let arg9 : BitVec 32 := Scf.iv c0_i32_57 c1_i32_58 k0_t1
  let c8_i32 : BitVec 32 := 8#32
  let v109 : BitVec 32 := Scalar.muli arg9 c8_i32
  let v128 : BitVec 32 := Scalar.addi v109 c0_i32_134
  let v163 : Index := Scalar.indexCast v128
  let c96 : Index := 96#32
  ![v163.toNat, 96]
def k0_off19 (k0_t1 : Fin k0_t1_loop.trips) (c0_i32_134 : BitVec 32) : Fin 2 → Nat :=
  let c0_i32_57 : BitVec 32 := 0#32
  let c1_i32_58 : BitVec 32 := 1#32
  let arg9 : BitVec 32 := Scf.iv c0_i32_57 c1_i32_58 k0_t1
  let c8_i32 : BitVec 32 := 8#32
  let v109 : BitVec 32 := Scalar.muli arg9 c8_i32
  let v128 : BitVec 32 := Scalar.addi v109 c0_i32_134
  let v167 : Index := Scalar.indexCast v128
  let c112 : Index := 112#32
  ![v167.toNat, 112]
@[reducible] def k0_t3_loop : Scf.Loop 32 :=
  let c0_i32_173 : BitVec 32 := 0#32
  let c50_i32_174 : BitVec 32 := 50#32
  let v198 : BitVec 32 := Scalar.addi c0_i32_173 c50_i32_174
  let c1_i32_175 : BitVec 32 := 1#32
  ⟨c0_i32_173, v198, c1_i32_175⟩
def k0_off20 (k0_t3 : Fin k0_t3_loop.trips) : Fin 3 → Nat :=
  let c1_i32_425 : BitVec 32 := 1#32
  let v598 : Index := Scalar.indexCast c1_i32_425
  let c0_i32_173 : BitVec 32 := 0#32
  let c1_i32_175 : BitVec 32 := 1#32
  let arg10 : BitVec 32 := Scf.iv c0_i32_173 c1_i32_175 k0_t3
  let v599 : Index := Scalar.indexCast arg10
  let c0_426 : Index := 0#32
  ![1, v599.toNat, 0]
def k0_off21 (k0_t3 : Fin k0_t3_loop.trips) : Fin 3 → Nat :=
  let c1_i32_427 : BitVec 32 := 1#32
  let v603 : Index := Scalar.indexCast c1_i32_427
  let c0_i32_173 : BitVec 32 := 0#32
  let c1_i32_175 : BitVec 32 := 1#32
  let arg10 : BitVec 32 := Scf.iv c0_i32_173 c1_i32_175 k0_t3
  let v604 : Index := Scalar.indexCast arg10
  let c16_428 : Index := 16#32
  ![1, v604.toNat, 16]
def k0_off22 (k0_t3 : Fin k0_t3_loop.trips) : Fin 3 → Nat :=
  let c1_i32_429 : BitVec 32 := 1#32
  let v608 : Index := Scalar.indexCast c1_i32_429
  let c0_i32_173 : BitVec 32 := 0#32
  let c1_i32_175 : BitVec 32 := 1#32
  let arg10 : BitVec 32 := Scf.iv c0_i32_173 c1_i32_175 k0_t3
  let v609 : Index := Scalar.indexCast arg10
  let c32_430 : Index := 32#32
  ![1, v609.toNat, 32]
def k0_off23 (k0_t3 : Fin k0_t3_loop.trips) : Fin 3 → Nat :=
  let c1_i32_431 : BitVec 32 := 1#32
  let v613 : Index := Scalar.indexCast c1_i32_431
  let c0_i32_173 : BitVec 32 := 0#32
  let c1_i32_175 : BitVec 32 := 1#32
  let arg10 : BitVec 32 := Scf.iv c0_i32_173 c1_i32_175 k0_t3
  let v614 : Index := Scalar.indexCast arg10
  let c48_432 : Index := 48#32
  ![1, v614.toNat, 48]
def k0_off24 (k0_t3 : Fin k0_t3_loop.trips) : Fin 3 → Nat :=
  let c1_i32_433 : BitVec 32 := 1#32
  let v618 : Index := Scalar.indexCast c1_i32_433
  let c0_i32_173 : BitVec 32 := 0#32
  let c1_i32_175 : BitVec 32 := 1#32
  let arg10 : BitVec 32 := Scf.iv c0_i32_173 c1_i32_175 k0_t3
  let v619 : Index := Scalar.indexCast arg10
  let c64_434 : Index := 64#32
  ![1, v619.toNat, 64]
def k0_off25 (k0_t3 : Fin k0_t3_loop.trips) : Fin 3 → Nat :=
  let c1_i32_435 : BitVec 32 := 1#32
  let v623 : Index := Scalar.indexCast c1_i32_435
  let c0_i32_173 : BitVec 32 := 0#32
  let c1_i32_175 : BitVec 32 := 1#32
  let arg10 : BitVec 32 := Scf.iv c0_i32_173 c1_i32_175 k0_t3
  let v624 : Index := Scalar.indexCast arg10
  let c80_436 : Index := 80#32
  ![1, v624.toNat, 80]
def k0_off26 (k0_t3 : Fin k0_t3_loop.trips) : Fin 3 → Nat :=
  let c1_i32_437 : BitVec 32 := 1#32
  let v628 : Index := Scalar.indexCast c1_i32_437
  let c0_i32_173 : BitVec 32 := 0#32
  let c1_i32_175 : BitVec 32 := 1#32
  let arg10 : BitVec 32 := Scf.iv c0_i32_173 c1_i32_175 k0_t3
  let v629 : Index := Scalar.indexCast arg10
  let c96_438 : Index := 96#32
  ![1, v629.toNat, 96]
def k0_off27 (k0_t3 : Fin k0_t3_loop.trips) : Fin 3 → Nat :=
  let c1_i32_439 : BitVec 32 := 1#32
  let v633 : Index := Scalar.indexCast c1_i32_439
  let c0_i32_173 : BitVec 32 := 0#32
  let c1_i32_175 : BitVec 32 := 1#32
  let arg10 : BitVec 32 := Scf.iv c0_i32_173 c1_i32_175 k0_t3
  let v634 : Index := Scalar.indexCast arg10
  let c112_440 : Index := 112#32
  ![1, v634.toNat, 112]
@[reducible] def k0_t4_loop : Scf.Loop 32 :=
  let c0_i32_213 : BitVec 32 := 0#32
  let c50_i32_214 : BitVec 32 := 50#32
  let v259 : BitVec 32 := Scalar.addi c0_i32_213 c50_i32_214
  let c1_i32_215 : BitVec 32 := 1#32
  ⟨c0_i32_213, v259, c1_i32_215⟩
def k0_off28 (k0_t4 : Fin k0_t4_loop.trips) : Fin 3 → Nat :=
  let c2_i32_425 : BitVec 32 := 2#32
  let v598 : Index := Scalar.indexCast c2_i32_425
  let c0_i32_213 : BitVec 32 := 0#32
  let c1_i32_215 : BitVec 32 := 1#32
  let arg10 : BitVec 32 := Scf.iv c0_i32_213 c1_i32_215 k0_t4
  let v599 : Index := Scalar.indexCast arg10
  let c0_426 : Index := 0#32
  ![2, v599.toNat, 0]
def k0_off29 (k0_t4 : Fin k0_t4_loop.trips) : Fin 3 → Nat :=
  let c2_i32_427 : BitVec 32 := 2#32
  let v603 : Index := Scalar.indexCast c2_i32_427
  let c0_i32_213 : BitVec 32 := 0#32
  let c1_i32_215 : BitVec 32 := 1#32
  let arg10 : BitVec 32 := Scf.iv c0_i32_213 c1_i32_215 k0_t4
  let v604 : Index := Scalar.indexCast arg10
  let c16_428 : Index := 16#32
  ![2, v604.toNat, 16]
def k0_off30 (k0_t4 : Fin k0_t4_loop.trips) : Fin 3 → Nat :=
  let c2_i32_429 : BitVec 32 := 2#32
  let v608 : Index := Scalar.indexCast c2_i32_429
  let c0_i32_213 : BitVec 32 := 0#32
  let c1_i32_215 : BitVec 32 := 1#32
  let arg10 : BitVec 32 := Scf.iv c0_i32_213 c1_i32_215 k0_t4
  let v609 : Index := Scalar.indexCast arg10
  let c32_430 : Index := 32#32
  ![2, v609.toNat, 32]
def k0_off31 (k0_t4 : Fin k0_t4_loop.trips) : Fin 3 → Nat :=
  let c2_i32_431 : BitVec 32 := 2#32
  let v613 : Index := Scalar.indexCast c2_i32_431
  let c0_i32_213 : BitVec 32 := 0#32
  let c1_i32_215 : BitVec 32 := 1#32
  let arg10 : BitVec 32 := Scf.iv c0_i32_213 c1_i32_215 k0_t4
  let v614 : Index := Scalar.indexCast arg10
  let c48_432 : Index := 48#32
  ![2, v614.toNat, 48]
def k0_off32 (k0_t4 : Fin k0_t4_loop.trips) : Fin 3 → Nat :=
  let c2_i32_433 : BitVec 32 := 2#32
  let v618 : Index := Scalar.indexCast c2_i32_433
  let c0_i32_213 : BitVec 32 := 0#32
  let c1_i32_215 : BitVec 32 := 1#32
  let arg10 : BitVec 32 := Scf.iv c0_i32_213 c1_i32_215 k0_t4
  let v619 : Index := Scalar.indexCast arg10
  let c64_434 : Index := 64#32
  ![2, v619.toNat, 64]
def k0_off33 (k0_t4 : Fin k0_t4_loop.trips) : Fin 3 → Nat :=
  let c2_i32_435 : BitVec 32 := 2#32
  let v623 : Index := Scalar.indexCast c2_i32_435
  let c0_i32_213 : BitVec 32 := 0#32
  let c1_i32_215 : BitVec 32 := 1#32
  let arg10 : BitVec 32 := Scf.iv c0_i32_213 c1_i32_215 k0_t4
  let v624 : Index := Scalar.indexCast arg10
  let c80_436 : Index := 80#32
  ![2, v624.toNat, 80]
def k0_off34 (k0_t4 : Fin k0_t4_loop.trips) : Fin 3 → Nat :=
  let c2_i32_437 : BitVec 32 := 2#32
  let v628 : Index := Scalar.indexCast c2_i32_437
  let c0_i32_213 : BitVec 32 := 0#32
  let c1_i32_215 : BitVec 32 := 1#32
  let arg10 : BitVec 32 := Scf.iv c0_i32_213 c1_i32_215 k0_t4
  let v629 : Index := Scalar.indexCast arg10
  let c96_438 : Index := 96#32
  ![2, v629.toNat, 96]
def k0_off35 (k0_t4 : Fin k0_t4_loop.trips) : Fin 3 → Nat :=
  let c2_i32_439 : BitVec 32 := 2#32
  let v633 : Index := Scalar.indexCast c2_i32_439
  let c0_i32_213 : BitVec 32 := 0#32
  let c1_i32_215 : BitVec 32 := 1#32
  let arg10 : BitVec 32 := Scf.iv c0_i32_213 c1_i32_215 k0_t4
  let v634 : Index := Scalar.indexCast arg10
  let c112_440 : Index := 112#32
  ![2, v634.toNat, 112]
@[reducible] def k0_t5_loop : Scf.Loop 32 :=
  let c0_i32_253 : BitVec 32 := 0#32
  let c50_i32_254 : BitVec 32 := 50#32
  let v320 : BitVec 32 := Scalar.addi c0_i32_253 c50_i32_254
  let c1_i32_255 : BitVec 32 := 1#32
  ⟨c0_i32_253, v320, c1_i32_255⟩
def k0_off36 (k0_t5 : Fin k0_t5_loop.trips) : Fin 3 → Nat :=
  let c3_i32_425 : BitVec 32 := 3#32
  let v598 : Index := Scalar.indexCast c3_i32_425
  let c0_i32_253 : BitVec 32 := 0#32
  let c1_i32_255 : BitVec 32 := 1#32
  let arg10 : BitVec 32 := Scf.iv c0_i32_253 c1_i32_255 k0_t5
  let v599 : Index := Scalar.indexCast arg10
  let c0_426 : Index := 0#32
  ![3, v599.toNat, 0]
def k0_off37 (k0_t5 : Fin k0_t5_loop.trips) : Fin 3 → Nat :=
  let c3_i32_427 : BitVec 32 := 3#32
  let v603 : Index := Scalar.indexCast c3_i32_427
  let c0_i32_253 : BitVec 32 := 0#32
  let c1_i32_255 : BitVec 32 := 1#32
  let arg10 : BitVec 32 := Scf.iv c0_i32_253 c1_i32_255 k0_t5
  let v604 : Index := Scalar.indexCast arg10
  let c16_428 : Index := 16#32
  ![3, v604.toNat, 16]
def k0_off38 (k0_t5 : Fin k0_t5_loop.trips) : Fin 3 → Nat :=
  let c3_i32_429 : BitVec 32 := 3#32
  let v608 : Index := Scalar.indexCast c3_i32_429
  let c0_i32_253 : BitVec 32 := 0#32
  let c1_i32_255 : BitVec 32 := 1#32
  let arg10 : BitVec 32 := Scf.iv c0_i32_253 c1_i32_255 k0_t5
  let v609 : Index := Scalar.indexCast arg10
  let c32_430 : Index := 32#32
  ![3, v609.toNat, 32]
def k0_off39 (k0_t5 : Fin k0_t5_loop.trips) : Fin 3 → Nat :=
  let c3_i32_431 : BitVec 32 := 3#32
  let v613 : Index := Scalar.indexCast c3_i32_431
  let c0_i32_253 : BitVec 32 := 0#32
  let c1_i32_255 : BitVec 32 := 1#32
  let arg10 : BitVec 32 := Scf.iv c0_i32_253 c1_i32_255 k0_t5
  let v614 : Index := Scalar.indexCast arg10
  let c48_432 : Index := 48#32
  ![3, v614.toNat, 48]
def k0_off40 (k0_t5 : Fin k0_t5_loop.trips) : Fin 3 → Nat :=
  let c3_i32_433 : BitVec 32 := 3#32
  let v618 : Index := Scalar.indexCast c3_i32_433
  let c0_i32_253 : BitVec 32 := 0#32
  let c1_i32_255 : BitVec 32 := 1#32
  let arg10 : BitVec 32 := Scf.iv c0_i32_253 c1_i32_255 k0_t5
  let v619 : Index := Scalar.indexCast arg10
  let c64_434 : Index := 64#32
  ![3, v619.toNat, 64]
def k0_off41 (k0_t5 : Fin k0_t5_loop.trips) : Fin 3 → Nat :=
  let c3_i32_435 : BitVec 32 := 3#32
  let v623 : Index := Scalar.indexCast c3_i32_435
  let c0_i32_253 : BitVec 32 := 0#32
  let c1_i32_255 : BitVec 32 := 1#32
  let arg10 : BitVec 32 := Scf.iv c0_i32_253 c1_i32_255 k0_t5
  let v624 : Index := Scalar.indexCast arg10
  let c80_436 : Index := 80#32
  ![3, v624.toNat, 80]
def k0_off42 (k0_t5 : Fin k0_t5_loop.trips) : Fin 3 → Nat :=
  let c3_i32_437 : BitVec 32 := 3#32
  let v628 : Index := Scalar.indexCast c3_i32_437
  let c0_i32_253 : BitVec 32 := 0#32
  let c1_i32_255 : BitVec 32 := 1#32
  let arg10 : BitVec 32 := Scf.iv c0_i32_253 c1_i32_255 k0_t5
  let v629 : Index := Scalar.indexCast arg10
  let c96_438 : Index := 96#32
  ![3, v629.toNat, 96]
def k0_off43 (k0_t5 : Fin k0_t5_loop.trips) : Fin 3 → Nat :=
  let c3_i32_439 : BitVec 32 := 3#32
  let v633 : Index := Scalar.indexCast c3_i32_439
  let c0_i32_253 : BitVec 32 := 0#32
  let c1_i32_255 : BitVec 32 := 1#32
  let arg10 : BitVec 32 := Scf.iv c0_i32_253 c1_i32_255 k0_t5
  let v634 : Index := Scalar.indexCast arg10
  let c112_440 : Index := 112#32
  ![3, v634.toNat, 112]
@[reducible] def k0_t6_loop : Scf.Loop 32 :=
  let c0_i32_293 : BitVec 32 := 0#32
  let c50_i32_294 : BitVec 32 := 50#32
  let v381 : BitVec 32 := Scalar.addi c0_i32_293 c50_i32_294
  let c1_i32_295 : BitVec 32 := 1#32
  ⟨c0_i32_293, v381, c1_i32_295⟩
def k0_off44 (k0_t6 : Fin k0_t6_loop.trips) : Fin 3 → Nat :=
  let c4_i32_425 : BitVec 32 := 4#32
  let v598 : Index := Scalar.indexCast c4_i32_425
  let c0_i32_293 : BitVec 32 := 0#32
  let c1_i32_295 : BitVec 32 := 1#32
  let arg10 : BitVec 32 := Scf.iv c0_i32_293 c1_i32_295 k0_t6
  let v599 : Index := Scalar.indexCast arg10
  let c0_426 : Index := 0#32
  ![4, v599.toNat, 0]
def k0_off45 (k0_t6 : Fin k0_t6_loop.trips) : Fin 3 → Nat :=
  let c4_i32_427 : BitVec 32 := 4#32
  let v603 : Index := Scalar.indexCast c4_i32_427
  let c0_i32_293 : BitVec 32 := 0#32
  let c1_i32_295 : BitVec 32 := 1#32
  let arg10 : BitVec 32 := Scf.iv c0_i32_293 c1_i32_295 k0_t6
  let v604 : Index := Scalar.indexCast arg10
  let c16_428 : Index := 16#32
  ![4, v604.toNat, 16]
def k0_off46 (k0_t6 : Fin k0_t6_loop.trips) : Fin 3 → Nat :=
  let c4_i32_429 : BitVec 32 := 4#32
  let v608 : Index := Scalar.indexCast c4_i32_429
  let c0_i32_293 : BitVec 32 := 0#32
  let c1_i32_295 : BitVec 32 := 1#32
  let arg10 : BitVec 32 := Scf.iv c0_i32_293 c1_i32_295 k0_t6
  let v609 : Index := Scalar.indexCast arg10
  let c32_430 : Index := 32#32
  ![4, v609.toNat, 32]
def k0_off47 (k0_t6 : Fin k0_t6_loop.trips) : Fin 3 → Nat :=
  let c4_i32_431 : BitVec 32 := 4#32
  let v613 : Index := Scalar.indexCast c4_i32_431
  let c0_i32_293 : BitVec 32 := 0#32
  let c1_i32_295 : BitVec 32 := 1#32
  let arg10 : BitVec 32 := Scf.iv c0_i32_293 c1_i32_295 k0_t6
  let v614 : Index := Scalar.indexCast arg10
  let c48_432 : Index := 48#32
  ![4, v614.toNat, 48]
def k0_off48 (k0_t6 : Fin k0_t6_loop.trips) : Fin 3 → Nat :=
  let c4_i32_433 : BitVec 32 := 4#32
  let v618 : Index := Scalar.indexCast c4_i32_433
  let c0_i32_293 : BitVec 32 := 0#32
  let c1_i32_295 : BitVec 32 := 1#32
  let arg10 : BitVec 32 := Scf.iv c0_i32_293 c1_i32_295 k0_t6
  let v619 : Index := Scalar.indexCast arg10
  let c64_434 : Index := 64#32
  ![4, v619.toNat, 64]
def k0_off49 (k0_t6 : Fin k0_t6_loop.trips) : Fin 3 → Nat :=
  let c4_i32_435 : BitVec 32 := 4#32
  let v623 : Index := Scalar.indexCast c4_i32_435
  let c0_i32_293 : BitVec 32 := 0#32
  let c1_i32_295 : BitVec 32 := 1#32
  let arg10 : BitVec 32 := Scf.iv c0_i32_293 c1_i32_295 k0_t6
  let v624 : Index := Scalar.indexCast arg10
  let c80_436 : Index := 80#32
  ![4, v624.toNat, 80]
def k0_off50 (k0_t6 : Fin k0_t6_loop.trips) : Fin 3 → Nat :=
  let c4_i32_437 : BitVec 32 := 4#32
  let v628 : Index := Scalar.indexCast c4_i32_437
  let c0_i32_293 : BitVec 32 := 0#32
  let c1_i32_295 : BitVec 32 := 1#32
  let arg10 : BitVec 32 := Scf.iv c0_i32_293 c1_i32_295 k0_t6
  let v629 : Index := Scalar.indexCast arg10
  let c96_438 : Index := 96#32
  ![4, v629.toNat, 96]
def k0_off51 (k0_t6 : Fin k0_t6_loop.trips) : Fin 3 → Nat :=
  let c4_i32_439 : BitVec 32 := 4#32
  let v633 : Index := Scalar.indexCast c4_i32_439
  let c0_i32_293 : BitVec 32 := 0#32
  let c1_i32_295 : BitVec 32 := 1#32
  let arg10 : BitVec 32 := Scf.iv c0_i32_293 c1_i32_295 k0_t6
  let v634 : Index := Scalar.indexCast arg10
  let c112_440 : Index := 112#32
  ![4, v634.toNat, 112]
@[reducible] def k0_t7_loop : Scf.Loop 32 :=
  let c0_i32_333 : BitVec 32 := 0#32
  let c50_i32_334 : BitVec 32 := 50#32
  let v442 : BitVec 32 := Scalar.addi c0_i32_333 c50_i32_334
  let c1_i32_335 : BitVec 32 := 1#32
  ⟨c0_i32_333, v442, c1_i32_335⟩
def k0_off52 (k0_t7 : Fin k0_t7_loop.trips) : Fin 3 → Nat :=
  let c5_i32_425 : BitVec 32 := 5#32
  let v598 : Index := Scalar.indexCast c5_i32_425
  let c0_i32_333 : BitVec 32 := 0#32
  let c1_i32_335 : BitVec 32 := 1#32
  let arg10 : BitVec 32 := Scf.iv c0_i32_333 c1_i32_335 k0_t7
  let v599 : Index := Scalar.indexCast arg10
  let c0_426 : Index := 0#32
  ![5, v599.toNat, 0]
def k0_off53 (k0_t7 : Fin k0_t7_loop.trips) : Fin 3 → Nat :=
  let c5_i32_427 : BitVec 32 := 5#32
  let v603 : Index := Scalar.indexCast c5_i32_427
  let c0_i32_333 : BitVec 32 := 0#32
  let c1_i32_335 : BitVec 32 := 1#32
  let arg10 : BitVec 32 := Scf.iv c0_i32_333 c1_i32_335 k0_t7
  let v604 : Index := Scalar.indexCast arg10
  let c16_428 : Index := 16#32
  ![5, v604.toNat, 16]
def k0_off54 (k0_t7 : Fin k0_t7_loop.trips) : Fin 3 → Nat :=
  let c5_i32_429 : BitVec 32 := 5#32
  let v608 : Index := Scalar.indexCast c5_i32_429
  let c0_i32_333 : BitVec 32 := 0#32
  let c1_i32_335 : BitVec 32 := 1#32
  let arg10 : BitVec 32 := Scf.iv c0_i32_333 c1_i32_335 k0_t7
  let v609 : Index := Scalar.indexCast arg10
  let c32_430 : Index := 32#32
  ![5, v609.toNat, 32]
def k0_off55 (k0_t7 : Fin k0_t7_loop.trips) : Fin 3 → Nat :=
  let c5_i32_431 : BitVec 32 := 5#32
  let v613 : Index := Scalar.indexCast c5_i32_431
  let c0_i32_333 : BitVec 32 := 0#32
  let c1_i32_335 : BitVec 32 := 1#32
  let arg10 : BitVec 32 := Scf.iv c0_i32_333 c1_i32_335 k0_t7
  let v614 : Index := Scalar.indexCast arg10
  let c48_432 : Index := 48#32
  ![5, v614.toNat, 48]
def k0_off56 (k0_t7 : Fin k0_t7_loop.trips) : Fin 3 → Nat :=
  let c5_i32_433 : BitVec 32 := 5#32
  let v618 : Index := Scalar.indexCast c5_i32_433
  let c0_i32_333 : BitVec 32 := 0#32
  let c1_i32_335 : BitVec 32 := 1#32
  let arg10 : BitVec 32 := Scf.iv c0_i32_333 c1_i32_335 k0_t7
  let v619 : Index := Scalar.indexCast arg10
  let c64_434 : Index := 64#32
  ![5, v619.toNat, 64]
def k0_off57 (k0_t7 : Fin k0_t7_loop.trips) : Fin 3 → Nat :=
  let c5_i32_435 : BitVec 32 := 5#32
  let v623 : Index := Scalar.indexCast c5_i32_435
  let c0_i32_333 : BitVec 32 := 0#32
  let c1_i32_335 : BitVec 32 := 1#32
  let arg10 : BitVec 32 := Scf.iv c0_i32_333 c1_i32_335 k0_t7
  let v624 : Index := Scalar.indexCast arg10
  let c80_436 : Index := 80#32
  ![5, v624.toNat, 80]
def k0_off58 (k0_t7 : Fin k0_t7_loop.trips) : Fin 3 → Nat :=
  let c5_i32_437 : BitVec 32 := 5#32
  let v628 : Index := Scalar.indexCast c5_i32_437
  let c0_i32_333 : BitVec 32 := 0#32
  let c1_i32_335 : BitVec 32 := 1#32
  let arg10 : BitVec 32 := Scf.iv c0_i32_333 c1_i32_335 k0_t7
  let v629 : Index := Scalar.indexCast arg10
  let c96_438 : Index := 96#32
  ![5, v629.toNat, 96]
def k0_off59 (k0_t7 : Fin k0_t7_loop.trips) : Fin 3 → Nat :=
  let c5_i32_439 : BitVec 32 := 5#32
  let v633 : Index := Scalar.indexCast c5_i32_439
  let c0_i32_333 : BitVec 32 := 0#32
  let c1_i32_335 : BitVec 32 := 1#32
  let arg10 : BitVec 32 := Scf.iv c0_i32_333 c1_i32_335 k0_t7
  let v634 : Index := Scalar.indexCast arg10
  let c112_440 : Index := 112#32
  ![5, v634.toNat, 112]
@[reducible] def k0_t8_loop : Scf.Loop 32 :=
  let c0_i32_373 : BitVec 32 := 0#32
  let c50_i32_374 : BitVec 32 := 50#32
  let v503 : BitVec 32 := Scalar.addi c0_i32_373 c50_i32_374
  let c1_i32_375 : BitVec 32 := 1#32
  ⟨c0_i32_373, v503, c1_i32_375⟩
def k0_off60 (k0_t8 : Fin k0_t8_loop.trips) : Fin 3 → Nat :=
  let c6_i32_425 : BitVec 32 := 6#32
  let v598 : Index := Scalar.indexCast c6_i32_425
  let c0_i32_373 : BitVec 32 := 0#32
  let c1_i32_375 : BitVec 32 := 1#32
  let arg10 : BitVec 32 := Scf.iv c0_i32_373 c1_i32_375 k0_t8
  let v599 : Index := Scalar.indexCast arg10
  let c0_426 : Index := 0#32
  ![6, v599.toNat, 0]
def k0_off61 (k0_t8 : Fin k0_t8_loop.trips) : Fin 3 → Nat :=
  let c6_i32_427 : BitVec 32 := 6#32
  let v603 : Index := Scalar.indexCast c6_i32_427
  let c0_i32_373 : BitVec 32 := 0#32
  let c1_i32_375 : BitVec 32 := 1#32
  let arg10 : BitVec 32 := Scf.iv c0_i32_373 c1_i32_375 k0_t8
  let v604 : Index := Scalar.indexCast arg10
  let c16_428 : Index := 16#32
  ![6, v604.toNat, 16]
def k0_off62 (k0_t8 : Fin k0_t8_loop.trips) : Fin 3 → Nat :=
  let c6_i32_429 : BitVec 32 := 6#32
  let v608 : Index := Scalar.indexCast c6_i32_429
  let c0_i32_373 : BitVec 32 := 0#32
  let c1_i32_375 : BitVec 32 := 1#32
  let arg10 : BitVec 32 := Scf.iv c0_i32_373 c1_i32_375 k0_t8
  let v609 : Index := Scalar.indexCast arg10
  let c32_430 : Index := 32#32
  ![6, v609.toNat, 32]
def k0_off63 (k0_t8 : Fin k0_t8_loop.trips) : Fin 3 → Nat :=
  let c6_i32_431 : BitVec 32 := 6#32
  let v613 : Index := Scalar.indexCast c6_i32_431
  let c0_i32_373 : BitVec 32 := 0#32
  let c1_i32_375 : BitVec 32 := 1#32
  let arg10 : BitVec 32 := Scf.iv c0_i32_373 c1_i32_375 k0_t8
  let v614 : Index := Scalar.indexCast arg10
  let c48_432 : Index := 48#32
  ![6, v614.toNat, 48]
def k0_off64 (k0_t8 : Fin k0_t8_loop.trips) : Fin 3 → Nat :=
  let c6_i32_433 : BitVec 32 := 6#32
  let v618 : Index := Scalar.indexCast c6_i32_433
  let c0_i32_373 : BitVec 32 := 0#32
  let c1_i32_375 : BitVec 32 := 1#32
  let arg10 : BitVec 32 := Scf.iv c0_i32_373 c1_i32_375 k0_t8
  let v619 : Index := Scalar.indexCast arg10
  let c64_434 : Index := 64#32
  ![6, v619.toNat, 64]
def k0_off65 (k0_t8 : Fin k0_t8_loop.trips) : Fin 3 → Nat :=
  let c6_i32_435 : BitVec 32 := 6#32
  let v623 : Index := Scalar.indexCast c6_i32_435
  let c0_i32_373 : BitVec 32 := 0#32
  let c1_i32_375 : BitVec 32 := 1#32
  let arg10 : BitVec 32 := Scf.iv c0_i32_373 c1_i32_375 k0_t8
  let v624 : Index := Scalar.indexCast arg10
  let c80_436 : Index := 80#32
  ![6, v624.toNat, 80]
def k0_off66 (k0_t8 : Fin k0_t8_loop.trips) : Fin 3 → Nat :=
  let c6_i32_437 : BitVec 32 := 6#32
  let v628 : Index := Scalar.indexCast c6_i32_437
  let c0_i32_373 : BitVec 32 := 0#32
  let c1_i32_375 : BitVec 32 := 1#32
  let arg10 : BitVec 32 := Scf.iv c0_i32_373 c1_i32_375 k0_t8
  let v629 : Index := Scalar.indexCast arg10
  let c96_438 : Index := 96#32
  ![6, v629.toNat, 96]
def k0_off67 (k0_t8 : Fin k0_t8_loop.trips) : Fin 3 → Nat :=
  let c6_i32_439 : BitVec 32 := 6#32
  let v633 : Index := Scalar.indexCast c6_i32_439
  let c0_i32_373 : BitVec 32 := 0#32
  let c1_i32_375 : BitVec 32 := 1#32
  let arg10 : BitVec 32 := Scf.iv c0_i32_373 c1_i32_375 k0_t8
  let v634 : Index := Scalar.indexCast arg10
  let c112_440 : Index := 112#32
  ![6, v634.toNat, 112]
@[reducible] def k0_t9_loop : Scf.Loop 32 :=
  let c0_i32_413 : BitVec 32 := 0#32
  let c50_i32_414 : BitVec 32 := 50#32
  let v564 : BitVec 32 := Scalar.addi c0_i32_413 c50_i32_414
  let c1_i32_415 : BitVec 32 := 1#32
  ⟨c0_i32_413, v564, c1_i32_415⟩
def k0_off68 (k0_t9 : Fin k0_t9_loop.trips) : Fin 3 → Nat :=
  let c7_i32_425 : BitVec 32 := 7#32
  let v598 : Index := Scalar.indexCast c7_i32_425
  let c0_i32_413 : BitVec 32 := 0#32
  let c1_i32_415 : BitVec 32 := 1#32
  let arg10 : BitVec 32 := Scf.iv c0_i32_413 c1_i32_415 k0_t9
  let v599 : Index := Scalar.indexCast arg10
  let c0_426 : Index := 0#32
  ![7, v599.toNat, 0]
def k0_off69 (k0_t9 : Fin k0_t9_loop.trips) : Fin 3 → Nat :=
  let c7_i32_427 : BitVec 32 := 7#32
  let v603 : Index := Scalar.indexCast c7_i32_427
  let c0_i32_413 : BitVec 32 := 0#32
  let c1_i32_415 : BitVec 32 := 1#32
  let arg10 : BitVec 32 := Scf.iv c0_i32_413 c1_i32_415 k0_t9
  let v604 : Index := Scalar.indexCast arg10
  let c16_428 : Index := 16#32
  ![7, v604.toNat, 16]
def k0_off70 (k0_t9 : Fin k0_t9_loop.trips) : Fin 3 → Nat :=
  let c7_i32_429 : BitVec 32 := 7#32
  let v608 : Index := Scalar.indexCast c7_i32_429
  let c0_i32_413 : BitVec 32 := 0#32
  let c1_i32_415 : BitVec 32 := 1#32
  let arg10 : BitVec 32 := Scf.iv c0_i32_413 c1_i32_415 k0_t9
  let v609 : Index := Scalar.indexCast arg10
  let c32_430 : Index := 32#32
  ![7, v609.toNat, 32]
def k0_off71 (k0_t9 : Fin k0_t9_loop.trips) : Fin 3 → Nat :=
  let c7_i32_431 : BitVec 32 := 7#32
  let v613 : Index := Scalar.indexCast c7_i32_431
  let c0_i32_413 : BitVec 32 := 0#32
  let c1_i32_415 : BitVec 32 := 1#32
  let arg10 : BitVec 32 := Scf.iv c0_i32_413 c1_i32_415 k0_t9
  let v614 : Index := Scalar.indexCast arg10
  let c48_432 : Index := 48#32
  ![7, v614.toNat, 48]
def k0_off72 (k0_t9 : Fin k0_t9_loop.trips) : Fin 3 → Nat :=
  let c7_i32_433 : BitVec 32 := 7#32
  let v618 : Index := Scalar.indexCast c7_i32_433
  let c0_i32_413 : BitVec 32 := 0#32
  let c1_i32_415 : BitVec 32 := 1#32
  let arg10 : BitVec 32 := Scf.iv c0_i32_413 c1_i32_415 k0_t9
  let v619 : Index := Scalar.indexCast arg10
  let c64_434 : Index := 64#32
  ![7, v619.toNat, 64]
def k0_off73 (k0_t9 : Fin k0_t9_loop.trips) : Fin 3 → Nat :=
  let c7_i32_435 : BitVec 32 := 7#32
  let v623 : Index := Scalar.indexCast c7_i32_435
  let c0_i32_413 : BitVec 32 := 0#32
  let c1_i32_415 : BitVec 32 := 1#32
  let arg10 : BitVec 32 := Scf.iv c0_i32_413 c1_i32_415 k0_t9
  let v624 : Index := Scalar.indexCast arg10
  let c80_436 : Index := 80#32
  ![7, v624.toNat, 80]
def k0_off74 (k0_t9 : Fin k0_t9_loop.trips) : Fin 3 → Nat :=
  let c7_i32_437 : BitVec 32 := 7#32
  let v628 : Index := Scalar.indexCast c7_i32_437
  let c0_i32_413 : BitVec 32 := 0#32
  let c1_i32_415 : BitVec 32 := 1#32
  let arg10 : BitVec 32 := Scf.iv c0_i32_413 c1_i32_415 k0_t9
  let v629 : Index := Scalar.indexCast arg10
  let c96_438 : Index := 96#32
  ![7, v629.toNat, 96]
def k0_off75 (k0_t9 : Fin k0_t9_loop.trips) : Fin 3 → Nat :=
  let c7_i32_439 : BitVec 32 := 7#32
  let v633 : Index := Scalar.indexCast c7_i32_439
  let c0_i32_413 : BitVec 32 := 0#32
  let c1_i32_415 : BitVec 32 := 1#32
  let arg10 : BitVec 32 := Scf.iv c0_i32_413 c1_i32_415 k0_t9
  let v634 : Index := Scalar.indexCast arg10
  let c112_440 : Index := 112#32
  ![7, v634.toNat, 112]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1000x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_s" => some ((50⁻¹ : ℝ) : EReal)
  | _ => none
-- ==== ReferenceIdeal.lean ====
abbrev S4096x50 : Shape := ⟨2, ![4096, 50]⟩
abbrev S100000x128 : Shape := ⟨2, ![100000, 128]⟩
abbrev S128x1000 : Shape := ⟨2, ![128, 1000]⟩
abbrev S1000 : Shape := ⟨1, ![1000]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x128 : Shape := ⟨2, ![4096, 128]⟩
abbrev S4096x1000 : Shape := ⟨2, ![4096, 1000]⟩
abbrev S1x1000 : Shape := ⟨2, ![1, 1000]⟩

abbrev nBuf : Space → Nat
  | .hbm => 36
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S128x1000, .f32⟩
  | .hbm, ⟨3, _⟩ => ⟨S1000, .f32⟩
  | .hbm, ⟨4, _⟩ => ⟨S_, .i32⟩
  | .hbm, ⟨5, _⟩ => ⟨S4096x50, .i32⟩
  | .hbm, ⟨6, _⟩ => ⟨S4096x50, .i1⟩
  | .hbm, ⟨7, _⟩ => ⟨S_, .i32⟩
  | .hbm, ⟨8, _⟩ => ⟨S4096x50, .i32⟩
  | .hbm, ⟨9, _⟩ => ⟨S4096x50, .i32⟩
  | .hbm, ⟨10, _⟩ => ⟨S4096x50, .i32⟩
  | .hbm, ⟨11, _⟩ => ⟨S4096x50x1, .i32⟩
  | .hbm, ⟨12, _⟩ => ⟨S1, .i32⟩
  | .hbm, ⟨13, _⟩ => ⟨S_, .i32⟩
  | .hbm, ⟨14, _⟩ => ⟨S4096x50x1, .i32⟩
  | .hbm, ⟨15, _⟩ => ⟨S4096x50x1, .i1⟩
  | .hbm, ⟨16, _⟩ => ⟨S1x1x1, .i32⟩
  | .hbm, ⟨17, _⟩ => ⟨S4096x50x1, .i32⟩
  | .hbm, ⟨18, _⟩ => ⟨S4096x50x1, .i1⟩
  | .hbm, ⟨19, _⟩ => ⟨S4096x50x1, .i1⟩
  | .hbm, ⟨20, _⟩ => ⟨S_, .i1⟩
  | .hbm, ⟨21, _⟩ => ⟨S4096x50, .i1⟩
  | .hbm, ⟨22, _⟩ => ⟨S4096x50x128, .f32⟩
  | .hbm, ⟨23, _⟩ => ⟨S4096x50x128, .i1⟩
  | .hbm, ⟨24, _⟩ => ⟨S_, .f32⟩
  | .hbm, ⟨25, _⟩ => ⟨S4096x50x128, .f32⟩
  | .hbm, ⟨26, _⟩ => ⟨S4096x50x128, .f32⟩
  | .hbm, ⟨27, _⟩ => ⟨S_, .f32⟩
  | .hbm, ⟨28, _⟩ => ⟨S4096x128, .f32⟩
  | .hbm, ⟨29, _⟩ => ⟨S_, .f32⟩
  | .hbm, ⟨30, _⟩ => ⟨S4096x128, .f32⟩
  | .hbm, ⟨31, _⟩ => ⟨S4096x128, .f32⟩
  | .hbm, ⟨32, _⟩ => ⟨S4096x1000, .f32⟩
  | .hbm, ⟨33, _⟩ => ⟨S1x1000, .f32⟩
  | .hbm, ⟨34, _⟩ => ⟨S4096x1000, .f32⟩
  | .hbm, ⟨35, _⟩ => ⟨S4096x1000, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩

abbrev nD : Nat := 1
abbrev τ : Topo := Topo.v7x

variable {F : FTy → Type} [FloatOps F]
-- ==== Proof.Ring.lean ====
/-
  The gathering kernel, said again with its parts named: one `fire`, one `land` and one `pool` for every slot of the
  ring, so that each is stepped once for all eight slots. `body_eq`: the printed kernel is this one.
-/
module

public import proofs.«01_k».proof.Proof.Gen.KernelIdeal
public import Idealize.ShloMosaic.Lib.SparseCore.Stream

@[expose] public section

noncomputable section

namespace Cert.Proof.Bag

open Cert.KernelIdeal Cert.KernelIdeal.Gen
open Idealize.ShloMosaic Idealize.SL.Sem

variable {F : FTy → Type} [FloatOps F] [Named F]

/-! ## Memory references -/

/-- The padded index rows, in HBM. -/
abbrev idsM : Memref sig .scVector .hbm S4096x128 .i32 := Memref.whole main_v0_scv
/-- The embedding table, in HBM. -/
abbrev tableM : Memref sig .scVector .hbm S100000x128 .f32 := Memref.whole main_arg1_scv
/-- The pooled rows, in HBM. -/
abbrev pooledM : Memref sig .scVector .hbm S4096x128 .f32 := Memref.whole main_v1_scv
/-- A tile's own index rows. -/
abbrev idxM : Memref sig .scVector .vmem S128x128 .i32 := Memref.whole cc0_scratch0
/-- A tile's ring of eight slots of fifty rows. -/
abbrev ringM : Memref sig .scVector .vmem S8x50x128 .f32 := Memref.whole cc0_scratch1
/-- A tile's own pooled rows. -/
abbrev accM : Memref sig .scVector .vmem S128x128 .f32 := Memref.whole cc0_scratch2

/-- Slot `k` lies within the ring. -/
theorem slot_inb (k : Fin 8) : ∀ a, (![k.val, 0, 0] : Fin 3 → Nat) a + S1x50x128.size a ≤ S8x50x128.size a := by
  revert k; decide
/-- Slot `k`'s semaphore lies within the array of eight. -/
theorem sem_inb (k : Fin 8) : ∀ a, (![k.val] : Fin 1 → Nat) a + S1.size a ≤ S8.size a := by
  revert k; decide

/-- Slot `k` of the ring. -/
abbrev slotM (k : Fin 8) : Memref sig .scVector .vmem S50x128 .f32 :=
  (ringM.slice (Rect.unit (s := S8x50x128) ![k.val, 0, 0] S1x50x128.size (slot_inb k)) (fun _ => rfl)).squeeze S50x128 squeezes_S1x50x128_S50x128
/-- Slot `k`'s semaphore. -/
abbrev slotSem (k : Fin 8) : DmaSem sig :=
  ((cc0_scratch3.slice (Rect.unit (s := S8) ![k.val] S1.size (sem_inb k))).squeeze S_ squeezes_S1_S_).sem
/-- The whole table, as the gathers name it. -/
abbrev srcM : Memref sig .scVector .hbm S100000x128 .f32 :=
  tableM.slice (Rect.unit (s := S100000x128) ![0, 0] S100000x128.size inb_S100000x128_S100000x128_0_0) (fun _ => rfl)
/-- The fifty indices of the row that starts at `off`. -/
abbrev listM (off : Fin 2 → ℕ) (h : ∀ a, off a + S1x50.size a ≤ S128x128.size a) : Memref sig .scVector .vmem S50 .i32 :=
  (idxM.slice (Rect.unit (s := S128x128) off S1x50.size h) (fun _ => rfl)).squeeze S50 squeezes_S1x50_S50

/-! ## Loops and offsets -/

/-- The loop over the fifty gathered rows. -/
abbrev rowsLp : Scf.Loop 32 := ⟨0#32, 50#32, 1#32⟩
/-- The loop over the rows counts upwards without overflow. -/
theorem rowsLp_ok : rowsLp.OK := by decide

/-- Where lane group `j` of row `t` of slot `k` starts. -/
abbrev laneOff (k j : Fin 8) (t : Fin rowsLp.trips) : Fin 3 → ℕ := ![k.val, (Scf.iv 0#32 1#32 t.val).toNat, 16 * j.val]
/-- Each lane group of each row lies within the ring. -/
theorem laneOff_inb (k j : Fin 8) (t : Fin rowsLp.trips) : ∀ a, laneOff k j t a + S1x1x16.size a ≤ S8x50x128.size a := by
  revert k j t; decide +kernel
/-- Where lane group `j` of the pooled row of trip `g`, slot `k` starts. -/
abbrev sumOff (g : Fin k0_t1_loop.trips) (k j : Fin 8) : Fin 2 → ℕ :=
  ![(Scalar.addi (Scalar.muli (Scf.iv 0#32 1#32 g.val) 8#32) (BitVec.ofNat 32 k.val)).toNat, 16 * j.val]
/-- Each lane group of each pooled row lies within the tile's pooled rows. -/
theorem sumOff_inb (g : Fin k0_t1_loop.trips) (k j : Fin 8) : ∀ a, sumOff g k j a + S1x16.size a ≤ S128x128.size a := by
  revert g k j; decide +kernel

/-! ## The kernel's parts -/

/-- The processor of grid point `i`. -/
abbrev tileOf (i : grid0.Coords) : Proc τ := .scVector ((i 0).castLE hcore0) ((i 1).castLE hsub0)
/-- A tile's effects. -/
abbrev TEff (F : FTy → Type) (i : grid0.Coords) : Type → Type := TpuEff nD τ sig (Elt F) Λ₀ (tileOf i)

variable (i : grid0.Coords)

/-- Start the gather of the fifty rows listed at `off` into slot `k`. -/
def fire (k : Fin 8) (off : Fin 2 → ℕ) (h : ∀ a, off a + S1x50.size a ≤ S128x128.size a) : Prog (TEff F i) PUnit :=
  SparseCore.enqueueIndirectGather rfl srcM (slotM k) gathers_S100000x128_S50x128 (listM off h) rfl (slotSem k) (View.wordExact_bits rfl) rfl (Or.inl rfl)

/-- Wait for slot `k`'s gather. -/
def land (k : Fin 8) : Prog (TEff F i) PUnit :=
  SparseCore.waitIndirectGather (slotSem k) srcM (slotM k) (View.wordExact_bits rfl) ((View.wordExact_bits rfl).reshape _ _)

/-- Load lane group `j` of row `t` of slot `k`. -/
def loadLane (k j : Fin 8) (t : Fin rowsLp.trips) : Prog (TEff F i) (Vec F S1x1x16 .f32) :=
  Prog.lift (.load ringM (Rect.unit (s := S8x50x128) (laneOff k j t) S1x1x16.size (laneOff_inb k j t)).toLoadRect (View.loadsAt_vmem h_S1x1x16))

/-- Add the loaded lanes to a running sum. -/
def plus (a : FVec F S16 .f32) (v : Vec F S1x1x16 .f32) : FVec F S16 .f32 :=
  addf a (shapeCast S16 v shapeCasts_S1x1x16_S16)

/-- The eight running sums. -/
abbrev Acc8 (F : FTy → Type) : Type :=
  FVec F S16 .f32 × FVec F S16 .f32 × FVec F S16 .f32 × FVec F S16 .f32 × FVec F S16 .f32 × FVec F S16 .f32 × FVec F S16 .f32 × FVec F S16 .f32

/-- One row into the eight running sums. -/
def addRow (k : Fin 8) (t : Fin rowsLp.trips) : Acc8 F → Prog (TEff F i) (Acc8 F)
  | (a0, a1, a2, a3, a4, a5, a6, a7) => do
    let v0 ← loadLane i k 0 t
    let v1 ← loadLane i k 1 t
    let v2 ← loadLane i k 2 t
    let v3 ← loadLane i k 3 t
    let v4 ← loadLane i k 4 t
    let v5 ← loadLane i k 5 t
    let v6 ← loadLane i k 6 t
    let v7 ← loadLane i k 7 t
    pure (plus a0 v0, plus a1 v1, plus a2 v2, plus a3 v3, plus a4 v4, plus a5 v5, plus a6 v6, plus a7 v7)

/-- A vector of zeros. -/
def zeros : FVec F S16 .f32 := broadcast S16 (Scalar.ofBits .f32 0x00000000#32)

/-- Store lane group `j` of the pooled row of trip `g`, slot `k` (the kernel reads the old lanes first and drops them). -/
def putLane (g : Fin k0_t1_loop.trips) (k j : Fin 8) (a : FVec F S16 .f32) : Prog (TEff F i) PUnit := do
  let _ ← Prog.lift (.load accM (Rect.unit (s := S128x128) (sumOff g k j) S1x16.size (sumOff_inb g k j)).toLoadRect (View.loadsAt_vmem h_S1x16))
  Prog.lift (.store accM (Rect.unit (s := S128x128) (sumOff g k j) S1x16.size (sumOff_inb g k j)) (shapeCast S1x16 a shapeCasts_S16_S1x16) Finset.univ
    (View.stores_vmem_bits_univ h_S1x16 rfl) (.inl rfl))

/-- Add up slot `k`'s fifty rows and store their sum. -/
def pool (g : Fin k0_t1_loop.trips) (k : Fin 8) : Prog (TEff F i) PUnit := do
  let (a0, a1, a2, a3, a4, a5, a6, a7) ← Scf.Loop.for rowsLp rowsLp_ok (zeros, zeros, zeros, zeros, zeros, zeros, zeros, zeros) (addRow i k)
  putLane i g k 0 a0
  putLane i g k 1 a1
  putLane i g k 2 a2
  putLane i g k 3 a3
  putLane i g k 4 a4
  putLane i g k 5 a5
  putLane i g k 6 a6
  putLane i g k 7 a7

/-- Refill the slot before slot `k` of the ring, then take slot `k`. -/
def turn (g : Fin k0_t1_loop.trips) (k : Fin 8) : Prog (TEff F i) PUnit := do
  fire i (k + 7) (k0_off3 g (BitVec.ofNat 32 k.val)) (k0_off3_inb g k)
  land i k
  pool i g k

/-- Once around the ring. -/
def trip (g : Fin k0_t1_loop.trips) : Prog (TEff F i) PUnit := do
  turn i g 0
  turn i g 1
  turn i g 2
  turn i g 3
  turn i g 4
  turn i g 5
  turn i g 6
  turn i g 7
  pure ⟨⟩

/-- The tile's block of the index rows. -/
abbrev idsBlk : Memref sig .scVector .hbm S128x128 .i32 :=
  idsM.slice (Rect.unit (s := S4096x128) (k0_off1 i) S128x128.size (k0_off1_inb i)) (fun _ => rfl)
/-- The tile's block of the pooled rows. -/
abbrev pooledBlk : Memref sig .scVector .hbm S128x128 .f32 :=
  pooledM.slice (Rect.unit (s := S4096x128) (k0_off1 i) S128x128.size (k0_off1_inb i)) (fun _ => rfl)

/-- Fetch the tile's index rows. -/
def fetchIds : Prog (TEff F i) PUnit := do
  Prog.lift (.enqueueDma (idsBlk i) (.here idxM) (.dma cc0_scoped0.sem) (View.wordExact_bits rfl) (Memref.isWhole_whole _).wordExact ⟨Or.inl rfl, trivial⟩)
  Prog.lift (.waitDma2 cc0_scoped0.sem (idsBlk i) idxM (View.wordExact_bits rfl) (Memref.isWhole_whole _).wordExact)

/-- Write the tile's pooled rows out. -/
def writeOut : Prog (TEff F i) PUnit := do
  Prog.lift (.enqueueDma accM (.here (pooledBlk i)) (.dma cc0_scoped1.sem) (Memref.isWhole_whole _).wordExact (View.wordExact_bits rfl) ⟨Or.inl rfl, trivial⟩)
  Prog.lift (.waitDma2 cc0_scoped1.sem accM (pooledBlk i) (Memref.isWhole_whole _).wordExact (View.wordExact_bits rfl))

/-- The whole kernel on one tile. -/
def body : Prog (TEff F i) PUnit := do
  fetchIds i
  fire i 0 (k0_off2 0#32) (k0_off2_inb 0)
  fire i 1 (k0_off2 1#32) (k0_off2_inb 1)
  fire i 2 (k0_off2 2#32) (k0_off2_inb 2)
  fire i 3 (k0_off2 3#32) (k0_off2_inb 3)
  fire i 4 (k0_off2 4#32) (k0_off2_inb 4)
  fire i 5 (k0_off2 5#32) (k0_off2_inb 5)
  fire i 6 (k0_off2 6#32) (k0_off2_inb 6)
  Scf.Loop.for k0_t1_loop k0_t1_ok ⟨⟩ fun g _ => trip i g
  land i 0
  land i 1
  land i 2
  land i 3
  land i 4
  land i 5
  land i 6
  writeOut i

set_option maxRecDepth 65536 in
set_option maxHeartbeats 4000000 in
/-- The printed kernel on its own memory is `body`. -/
theorem body_eq : cc0__pool_body (F := F) i idsM (Memref.isWhole_whole _) tableM (Memref.isWhole_whole _) pooledM (Memref.isWhole_whole _)
    idxM (Memref.isWhole_whole _) ringM (Memref.isWhole_whole _) accM (Memref.isWhole_whole _) cc0_scratch3 cc0_scoped0 cc0_scoped1 = body i := by
  simp only [cc0__pool_body, k0_part1, k0_part2, k0_part3, k0_part4, k0_part5, k0_part6, k0_part7, k0_part8, k0_part9, k0_part10, k0_part11, k0_part12, k0_part13, k0_part14, k0_part15, k0_part16, k0_part17, k0_part18, k0_part19,
    body, trip, turn, pool, putLane, fetchIds, writeOut, bind_assoc, pure_bind]
  rfl

end Cert.Proof.Bag

end
-- ==== Proof.Views.lean ====
/-
  Where the kernel's views fall in their buffers: the slots of the ring, the lists of indices, the lane groups.
-/
module

public import proofs.«01_k».proof.Proof.Ring
public import Idealize.ShloMosaic.Lib.PointwiseCore

@[expose] public section

noncomputable section

namespace Cert.Proof.Bag

open Cert.KernelIdeal Cert.KernelIdeal.Gen
open Idealize.ShloMosaic Idealize.SL.Sem

/-! ## The slots of the ring -/

/-- A slot's rows as a box of the ring, the slot's own axis put back. -/
theorem slot_reshape (h : S50x128.numel = S1x50x128.numel) (a : Fin 50) (b : Fin 128) :
    Shape.reshapeEquiv h (ix2 a b) = (ix3 0 a b : S1x50x128.Idx) := by
  pointwise

/-- Element `x` of slot `k` is element `(k, x)` of the ring. -/
theorem slot_emb (k : Fin 8) (x : S50x128.Idx) : (slotM k).view.emb x = (ix3 k (x 0) (x 1) : S8x50x128.Idx) := by
  obtain ⟨a, b, rfl⟩ : ∃ (a : Fin 50) (b : Fin 128), x = ix2 a b := ⟨x 0, x 1, eq_ix2 x⟩
  have e : (slotM k).view.emb (ix2 a b)
      = (Rect.unit (s := S8x50x128) ![k.val, 0, 0] S1x50x128.size (slot_inb k)).emb (Shape.reshapeEquiv squeezes_S1x50x128_S50x128.numel_eq (ix2 a b)) := rfl
  rw [e, slot_reshape]
  funext c
  apply Fin.ext
  fin_cases c <;> simp [Rect.emb_apply]

/-- Slot `k` is the elements of the ring whose first coordinate is `k`. -/
theorem mem_slot (k : Fin 8) (x : S8x50x128.Idx) : x ∈ (slotM k).view.set ↔ x 0 = k := by
  constructor
  · intro h
    obtain ⟨y, -, rfl⟩ := Finset.mem_map.mp h
    rw [slot_emb]; rfl
  · rintro rfl
    exact Finset.mem_map.mpr ⟨ix2 (x 1) (x 2), Finset.mem_univ _, (slot_emb _ _).trans (eq_ix3 x).symm⟩

/-- Element `x` of the list that starts at row `e` is element `(e, x)` of the index rows. -/
theorem list_emb (e : Fin 128) (off : Fin 2 → ℕ) (h) (ho : off = ![e.val, 0]) (x : S50.Idx) :
    (listM off h).view.emb x = (ix2 e ⟨(x 0).val, (x 0).isLt.trans (by decide)⟩ : S128x128.Idx) := by
  subst ho
  idx_vars x
  show (Rect.unit (s := S128x128) ![e.val, 0] S1x50.size h).emb (Shape.reshapeEquiv _ (ix1 _)) = _
  pointwise
  funext a
  apply Fin.ext
  fin_cases a <;> simp [Rect.emb_apply]

/-- The gathers' view of the table is the table. -/
theorem src_emb (x : S100000x128.Idx) : srcM.view.emb x = x := by
  show (Rect.unit (s := S100000x128) ![0, 0] S100000x128.size _).emb x = _
  funext a
  apply Fin.ext
  fin_cases a <;> simp [Rect.emb_apply]

/-- Lane `x` of the lane group `j` of row `t` of slot `k`. -/
theorem lane_emb (k j : Fin 8) (t : Fin rowsLp.trips) (x : S1x1x16.Idx) :
    (Rect.unit (s := S8x50x128) (laneOff k j t) S1x1x16.size (laneOff_inb k j t)).emb x
      = (ix3 k ⟨t.val, t.isLt⟩ ⟨16 * j.val + (x 2).val, by have h : (x 2).val < 16 := (x 2).isLt; have := j.isLt; omega⟩ : S8x50x128.Idx) := by
  have ht : ∀ t : Fin rowsLp.trips, (Scf.iv 0#32 1#32 t.val).toNat = t.val := by decide +kernel
  idx_vars x
  funext a
  apply Fin.ext
  fin_cases a <;> simp [Rect.emb_apply, ht]

/-- Lane `x` of the lane group `j` of the pooled row of trip `g`, slot `k`. -/
theorem sum_emb (g : Fin k0_t1_loop.trips) (k j : Fin 8) (x : S1x16.Idx) :
    (Rect.unit (s := S128x128) (sumOff g k j) S1x16.size (sumOff_inb g k j)).emb x
      = (ix2 ⟨8 * g.val + k.val, by have := k.isLt; have := g.isLt; have := k0_t1_abs.2.1; omega⟩
          ⟨16 * j.val + (x 1).val, by have h : (x 1).val < 16 := (x 1).isLt; have := j.isLt; omega⟩ : S128x128.Idx) := by
  have ht : ∀ (g : Fin k0_t1_loop.trips) (k : Fin 8),
      (Scalar.addi (Scalar.muli (Scf.iv 0#32 1#32 g.val) 8#32) (BitVec.ofNat 32 k.val)).toNat = 8 * g.val + k.val := by decide +kernel
  idx_vars x
  funext a
  apply Fin.ext
  fin_cases a <;> simp [Rect.emb_apply, ht]

end Cert.Proof.Bag

end
-- ==== Proof.Steps.lean ====
/-
  One tile's steps, each once for every slot of the ring and with the values it leaves: starting a gather (`wp_fire`),
  waiting for it (`wp_land`), adding up a slot's fifty rows (`wp_pool`), and one turn of the ring (`wp_turn`).
-/
module

public import proofs.«01_k».proof.Proof.Views
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch sees it -/

/-- The labels of the kernels and of the classifier's pipeline. -/
abbrev ΛP : Labels := Pipeline.Sig Λ₀ (Fin 1) fun p => (pcfgs (F := F) p).Adm
/-- The program's SparseCore calls. -/
abbrev K : SparseCore.Cfg τ sig (ΛP (F := F)) 1 := sc (F := F)
/-- The bodies under those labels. -/
abbrev D : Defs nD τ sig (Elt F) (ΛP (F := F)) := Pipeline.defs pcfgs defs₀
/-- No loop is left to a measure. -/
abbrev 𝒱₀ : Variants := Variants.none
/-- The same with the launch's own labels. -/
abbrev 𝒱 : Variants := 𝒱₀.lift
/-- Its one value. -/
abbrev v₀ : 𝒱.V := Sum.inl none

/-- The launch semaphores are apart, none is scoped, and no buffer of a SparseCore is shared among its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the classifier's pipeline, the transfers' counters -/

/-- The handshakes' rounds. -/
abbrev UH : Type := URounds (GSem nD τ sig) ℕ
/-- The pipeline's rounds. -/
abbrev UP : Type := URounds (GSem nD τ sig) Unit
/-- The program's ghost state. -/
abbrev UU : Type := UH × (UP × Counters)

local notation "𝕄" => MT nD τ sig (HIx 1) (Elt F) ℕ UU ℕ

/-- The handshakes' rounds in it. -/
abbrev EH : Emb UH (MT nD τ sig (HIx 1) (Elt F) ℕ UU ℕ) := embL

/-! ## Values -/

/-- The row of the table an index names. -/
def rowIx (w : BitVec 32) : Fin 100000 := Fin.ofNat 100000 w.toNat

/-- Row `n` of the list, an index of the 128 padded ones. -/
abbrev col (n : ℕ) : Fin 128 := Fin.ofNat 128 n

section Values

variable (T : S100000x128.Idx → Elt F .f32) {R : ℕ} (I : (⟨2, ![R, 128]⟩ : Shape).Idx → BitVec 32)

/-- Lane `c` of the sum of the first `n` rows listed in row `e`, added up from zero in the kernel's order. -/
def bag (e : Fin R) (c : Fin 128) : ℕ → F .f32
  | 0 => Scalar.ofBits .f32 0x00000000#32
  | n + 1 => FloatOps.addf (bag e c n) (T (ix2 (rowIx (I (ix2 e (col n)))) c))

/-- What a slot holds once the gather of row `e` has landed. -/
def slotVal (e : Fin R) : S8x50x128.Idx → Elt F .f32 :=
  fun x => T (ix2 (rowIx (I (ix2 e (col (x 1).val)))) (x 2))

/-- Lane `x` of group `j` among the 128. -/
abbrev lane (j : Fin 8) (x : Fin 16) : Fin 128 := ⟨16 * j.val + x.val, by omega⟩

/-- Lane group `j` of the running sum. -/
def laneSum (e : Fin R) (j : Fin 8) (n : ℕ) : FVec F S16 .f32 := fun x => bag T I e (lane j (x 0)) n

/-- The eight running sums after `n` rows. -/
def sums (e : Fin R) (n : ℕ) : Acc8 F :=
  (laneSum T I e 0 n, laneSum T I e 1 n, laneSum T I e 2 n, laneSum T I e 3 n, laneSum T I e 4 n, laneSum T I e 5 n, laneSum T I e 6 n, laneSum T I e 7 n)

/-- Lane group `j` of the `t`-th row of the list. -/
def rowLanes (e : Fin R) (j : Fin 8) (t : ℕ) : Vec F S1x1x16 .f32 := fun x => T (ix2 (rowIx (I (ix2 e (col t)))) (lane j (x 2)))

/-- Adding the next row of the list to a running sum is the running sum of one more row. -/
theorem plus_rowLanes (e : Fin R) (j : Fin 8) (t : ℕ) : plus (laneSum T I e j t) (rowLanes T I e j t) = laneSum T I e j (t + 1) := by
  funext x
  idx_vars x
  simp only [plus, laneSum, bag, rowLanes]
  pointwise
  rfl

/-- The running sum of no rows is zero. -/
theorem laneSum_zero (e : Fin R) (j : Fin 8) : laneSum T I e j 0 = (zeros : FVec F S16 .f32) := rfl

end Values

/-! ## One tile's resources -/

section Tile

variable (d : Dev nD) (i : grid0.Coords)

/-- The SparseCore of grid point `i`. -/
abbrev cV (i : grid0.Coords) : Fin τ.nSC := (i 0).castLE hcore0
/-- The tile of grid point `i`. -/
abbrev jV (i : grid0.Coords) : Fin τ.nSub := (i 1).castLE hsub0
/-- The thread of grid point `i`. -/
abbrev thr : Thread nD τ := V d (cV i) (jV i)

variable (T : S100000x128.Idx → Elt F .f32) (I : S128x128.Idx → BitVec 32)
variable (qT qI : Fin 8 → PosShare TreeShare)

/-- Slot `k`'s elements of the ring, at `f`. -/
abbrev slotPts (k : Fin 8) (f : S8x50x128.Idx → Elt F .f32) : sProp 𝕄 := (slotM k).view.loc (thr d i) ↦[(slotM k).view.set]{fullShare} f
/-- Slot `k`'s share of the table. -/
abbrev tblPts (k : Fin 8) : sProp 𝕄 := srcM.view.loc (thr d i) ↦[srcM.view.set]{qT k} T
/-- Slot `k`'s share of the index rows, on the elements `A`. -/
abbrev lstPts (k : Fin 8) (A : Finset S128x128.Idx) : sProp 𝕄 := idxM.view.loc (thr d i) ↦[A]{qI k} I

/-- The elements of the list of row `e`. -/
def lstSet (e : Fin 128) : Finset S128x128.Idx := Finset.univ.map ⟨fun x : Fin 50 => ix2 e ⟨x.val, x.isLt.trans (by decide)⟩, fun a b h => by
  have := congrArg Fin.val ((ix2_inj _ _ _ _).mp h).2; exact Fin.ext this⟩

/-- The list that a gather reads is the first fifty elements of its row. -/
theorem lstSet_eq (e : Fin 128) (off : Fin 2 → ℕ) (h) (ho : off = ![e.val, 0]) : (listM off h).view.set = lstSet e := by
  ext y
  constructor
  · intro hy
    obtain ⟨x, -, rfl⟩ := Finset.mem_map.mp hy
    exact Finset.mem_map.mpr ⟨x 0, Finset.mem_univ _, (list_emb e off h ho x).symm⟩
  · intro hy
    obtain ⟨x, -, rfl⟩ := Finset.mem_map.mp hy
    exact Finset.mem_map.mpr ⟨ix1 x, Finset.mem_univ _, list_emb e off h ho (ix1 x)⟩

/-- Slot `k` with nothing under way, holding `f`. -/
def Held (k : Fin 8) (f : S8x50x128.Idx → Elt F .f32) : sProp 𝕄 :=
  iprop(slotPts d i k f ∗ tblPts d i T qT k ∗ lstPts d i I qI k Finset.univ ∗ semVal (thr d i, SemLoc.dma (slotSem k)) 0)
/-- Slot `k` with nothing under way. -/
def Idle (k : Fin 8) : sProp 𝕄 := iprop(∃ f, Held d i T I qT qI k f)
/-- Slot `k` with the gather of row `e` under way. -/
def Busy (k : Fin 8) (e : Fin 128) : sProp 𝕄 :=
  iprop(Transfers.Flight countersEmb (thr d i) (.dma (slotSem k)) (default : HIx 1) (slotM k).view.dmaCredit
      iprop(slotPts d i k (slotVal T I e) ∗ tblPts d i T qT k ∗ lstPts d i I qI k (lstSet e))
    ∗ lstPts d i I qI k (Finset.univ \ lstSet e))
/-- What the tile owes, and the levels its waits are answered by. -/
def Due (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (thr d i) O W')

/-- The rows of a gather add up to its slot. -/
theorem rows_credit (k : Fin 8) (h : S100000x128.Gathers 0 S50x128) :
    ∑ j, ((slotM k).slice (S50x128.rowRect h.axis' j) (S50x128.stride_rowRect h.axis' j)).view.dmaCredit = (slotM k).view.dmaCredit := by
  revert h k; decide +kernel

/-- A slot's share of the index rows: the list of row `e`, and the rest. -/
theorem lst_split (k : Fin 8) (e : Fin 128) :
    (lstPts d i I qI k Finset.univ : sProp 𝕄) ⊣⊢ iprop(lstPts d i I qI k (lstSet e) ∗ lstPts d i I qI k (Finset.univ \ lstSet e)) :=
  pointsTo_split_subset (Finset.subset_univ (lstSet e))

/-- What a gather of row `e` writes into slot `k`. -/
theorem gather_val (hI : ∀ x, (I x).toNat < 100000) (k : Fin 8) (e : Fin 128) (off : Fin 2 → ℕ) (h) (ho : off = ![e.val, 0])
    (f : S8x50x128.Idx → Elt F .f32) (hn) (hin) :
    ∀ x ∈ (slotM k).view.set,
      (slotM k).view.write (Elt F) f (SparseCore.gatherPayload gathers_S100000x128_S50x128 (srcM.view.read (Elt F) T)
        (SparseCore.rows ((listM off h).view.read (Elt F) I) hn hin)) Finset.univ x = slotVal T I e x := by
  intro x hx
  obtain ⟨y, -, rfl⟩ := Finset.mem_map.mp hx
  rw [View.write_emb_of_mem _ _ (Finset.mem_univ y)]
  obtain ⟨a, b, rfl⟩ : ∃ (a : Fin 50) (b : Fin 128), y = ix2 a b := ⟨y 0, y 1, eq_ix2 y⟩
  refine (cast_eq _ _).trans ?_
  unfold SparseCore.gatherPayload slotVal
  rw [View.read_apply, src_emb]
  refine (cast_eq _ _).trans (congrArg T ?_)
  rw [slot_emb]
  funext c
  match c with
  | 0 =>
    refine (Shape.Gathers.idx_axis _ _ _).trans (Fin.ext ?_)
    have hx : S50.rowMajor.symm (Fin.cast hn.symm (a.cast rfl)) = ix1 a := by
      rw [Equiv.symm_apply_eq]
      exact Fin.ext (show a.val = (S50.rowMajor (ix1 a)).val from (Shape.rowMajor_val_one (ix1 a)).symm)
    have hr : ((listM off h).view.read (Elt F) I (ix1 a)) = I (ix2 e (col a.val)) := by
      rw [View.read_apply, list_emb e off h ho]
      refine (cast_eq _ _).trans (congrArg I (congrArg (ix2 e) (Fin.ext ?_)))
      exact (Nat.mod_eq_of_lt (a.isLt.trans (by decide))).symm
    show ((listM off h).view.read (Elt F) I (S50.rowMajor.symm (Fin.cast hn.symm (a.cast rfl)))).toNat = _
    rw [hx, hr]
    exact (Nat.mod_eq_of_lt (hI _)).symm
  | 1 =>
    exact Fin.ext (Shape.Gathers.idx_of_ne _ _ _ _ (by decide))

/-- A tile's program `p` runs to `Φ`. -/
abbrev runs {α : Type} (p : Prog (TEff F i) α) (Φ : α → sProp 𝕄) : sProp 𝕄 := wp frame (wpE (defs₀ (F := F)) 𝒱₀ (thr d i) none) Set.univ p Φ

/-- Starting the gather of row `e` into slot `k`. -/
theorem wp_fire {α : Type} {kk : PUnit → Prog (TEff F i) α} {Φ : α → sProp 𝕄} (hI : ∀ x, (I x).toNat < 100000) (k : Fin 8) (e : Fin 128) (off : Fin 2 → ℕ) (h) (ho : off = ![e.val, 0]) :
    Idle d i T I qT qI k
      ⊢ iprop((Busy d i T I qT qI k e -∗ runs d i (kk ⟨⟩) Φ)
          -∗ runs d i (fire i k off h >>= kk) Φ) := by
  have hin : ∀ x, ((listM off h).view.read (Elt F) I x).toNat < S100000x128.size gathers_S100000x128_S50x128.axis := by
    intro x; rw [View.read_apply]; exact hI _
  unfold Idle Held
  iintro ⟨%f, Hs, Ht, Hl, Hsem⟩ Hk
  ihave Hl' := (lst_split d i I qI k e).1 $$ Hl
  icases Hl' with ⟨Hl, Hr⟩
  unfold fire
  iapply (SparseCore.wp_indirectGatherLocal countersEmb 𝒱₀ (thr d i) none (hg := gathers_S100000x128_S50x128) (default : HIx 1)
      (slotM k).view.dmaCredit (rows_credit k _) (by decide) hin) $$ [Hs Ht Hl Hsem]
  · isplitl [Ht]; · iexact Ht
    isplitl [Hs]; · iexact Hs
    isplitl [Hl]
    · rw [lstSet_eq e off h ho]; iexact Hl
    iexact Hsem
  iintro Hfl
  iapply Hk
  unfold Busy
  isplitl [Hfl]
  · rw [lstSet_eq e off h ho]
    iapply (Transfers.Flight_mono countersEmb (thr d i)
      (sep_mono_left (Entails.of_eq (pointsTo_congr (gather_val T I hI k e off h ho f rfl hin))))) $$ Hfl
  iexact Hr

/-- Waiting for slot `k`'s gather. -/
theorem wp_land {α : Type} {kk : PUnit → Prog (TEff F i) α} {Φ : α → sProp 𝕄} (k : Fin 8) (e : Fin 128) (O : CellTallies nD τ sig (HIx 1)) (W : Waits sig (HIx 1)) (hO : ∀ g, O g none = 0) :
    iprop(Busy d i T I qT qI k e ∗ Due (F := F) d i O W)
      ⊢ iprop(((Held d i T I qT qI k (slotVal T I e) ∗ Due (F := F) d i O W) -∗ runs d i (kk ⟨⟩) Φ)
          -∗ runs d i (land i k >>= kk) Φ) := by
  unfold Busy Due
  iintro ⟨⟨Hfl, Hr⟩, #Hlv, %W', %hW', HO⟩ Hk
  ihave Hmw := (show levAts (K (F := F)).L (K (F := F)).lev ⊢ Transfers.MayWaits (thr d i) (default : HIx 1) O from
    (K (F := F)).mayWaits_none (thr := thr d i) hO) $$ Hlv
  unfold land SparseCore.waitIndirectGather
  iapply (Transfers.wp_waitLocalO countersEmb 𝒱₀ (thr d i) none (default : HIx 1) (rfl : (slotM k).view.dmaCredit = _)) $$ [Hfl HO]
  · isplitl [Hfl]; · iexact Hfl
    isplitl [HO]; · iexact HO
    iapply (Transfers.MayWaits.elim (SemLoc.dma (slotSem k))) $$ Hmw
  iintro ⟨⟨Hs, Ht, Hl⟩, Hsem, HO⟩
  iapply Hk
  isplitr [HO]
  · unfold Held
    isplitl [Hs]; · iexact Hs
    isplitl [Ht]; · iexact Ht
    isplitl [Hl Hr]
    · iapply (lst_split d i I qI k e).2
      isplitl [Hl] <;> iassumption
    iexact Hsem
  isplitr
  · iexact Hlv
  iexists _; isplitr
  swap; · iexact HO
  ipureintro; intro p hp
  rcases Finset.mem_insert.mp hp with hp | hp; · exact .inr (hp ▸ rfl)
  exact hW' p hp

/-! ## Adding up a slot -/

/-- Loading a lane group of the slot that holds row `e`'s gather. -/
theorem wp_loadLane {α : Type} {kk : Vec F S1x1x16 .f32 → Prog (TEff F i) α} {Φ : α → sProp 𝕄} (k j : Fin 8) (e : Fin 128) (t : Fin rowsLp.trips) :
    (slotPts d i k (slotVal T I e) : sProp 𝕄)
      ⊢ iprop((slotPts d i k (slotVal T I e) -∗ runs d i (kk (rowLanes T I e j t.val)) Φ) -∗ runs d i (loadLane i k j t >>= kk) Φ) := by
  have hS : (ringM.access (Rect.unit (s := S8x50x128) (laneOff k j t) S1x1x16.size (laneOff_inb k j t))).set ⊆ (slotM k).view.set := by
    intro x hx
    obtain ⟨z, -, rfl⟩ := Finset.mem_map.mp hx
    refine (mem_slot k _).mpr ?_
    exact congrFun (lane_emb k j t z) 0
  have hv : ((ringM.access (Rect.unit (s := S8x50x128) (laneOff k j t) S1x1x16.size (laneOff_inb k j t))).read (Elt F) (slotVal T I e) : Vec F S1x1x16 .f32)
      = rowLanes T I e j t.val := by
    funext x
    rw [View.read_apply]
    exact (cast_eq _ _).trans (congrArg (slotVal T I e) (lane_emb k j t x))
  iintro Hs Hk
  unfold loadLane
  iapply (wp_load_rect 𝒱₀ (thr d i) none Set.univ (m := ringM) (r := Rect.unit (s := S8x50x128) (laneOff k j t) S1x1x16.size (laneOff_inb k j t)) (hl := View.loadsAt_vmem h_S1x1x16) (S := (slotM k).view.set) (q := fullShare) (f := slotVal T I e) hS) $$ [Hs]
  · iexact Hs
  iintro Hs
  rw [hv]
  iapply Hk; iexact Hs

/-- One more row into the running sums. -/
theorem wp_addRow (k : Fin 8) (e : Fin 128) (t : Fin rowsLp.trips) :
    (slotPts d i k (slotVal T I e) : sProp 𝕄)
      ⊢ runs d i (addRow i k t (sums T I e t.val)) fun acc => iprop(slotPts d i k (slotVal T I e) ∗ ⌜acc = sums T I e (t.val + 1)⌝) := by
  iintro Hs
  unfold sums addRow
  iapply (wp_loadLane d i T I k 0 e t) $$ Hs; iintro Hs
  iapply (wp_loadLane d i T I k 1 e t) $$ Hs; iintro Hs
  iapply (wp_loadLane d i T I k 2 e t) $$ Hs; iintro Hs
  iapply (wp_loadLane d i T I k 3 e t) $$ Hs; iintro Hs
  iapply (wp_loadLane d i T I k 4 e t) $$ Hs; iintro Hs
  iapply (wp_loadLane d i T I k 5 e t) $$ Hs; iintro Hs
  iapply (wp_loadLane d i T I k 6 e t) $$ Hs; iintro Hs
  iapply (wp_loadLane d i T I k 7 e t) $$ Hs; iintro Hs
  simp only [plus_rowLanes, wp_pure]
  imodintro
  isplitl [Hs]; · iexact Hs
  ipureintro; trivial

/-- The pooled rows below row `e`, and row `e`'s lane groups below `j`, are the bags' sums. -/
def Done (e j : ℕ) (f : S128x128.Idx → Elt F .f32) : Prop :=
  ∀ x : S128x128.Idx, (x 0).val < e ∨ ((x 0).val = e ∧ (x 1).val < 16 * j) → f x = bag T I (x 0) (x 1) 50

/-- The tile's pooled rows, so far. -/
def Pooled (e j : ℕ) : sProp 𝕄 := iprop(∃ f, (accM.view.loc (thr d i) ↦{fullShare} f) ∗ ⌜Done T I e j f⌝)

/-- A row with all eight lane groups stored is a row done. -/
theorem Done_row {e : ℕ} {f : S128x128.Idx → Elt F .f32} (h : Done T I e 8 f) : Done T I (e + 1) 0 f := fun x hx => h x (by
  have h1 : (x 1).val < 128 := (x 1).isLt
  omega)

/-- Storing a lane group of the pooled row. -/
theorem wp_putLane {α : Type} {kk : PUnit → Prog (TEff F i) α} {Φ : α → sProp 𝕄} (g : Fin k0_t1_loop.trips) (k j : Fin 8) (n : ℕ) (hn : j.val = n) (e : Fin 128) (he : e.val = 8 * g.val + k.val) :
    (Pooled d i T I e.val n : sProp 𝕄)
      ⊢ iprop((Pooled d i T I e.val (n + 1) -∗ runs d i (kk ⟨⟩) Φ) -∗ runs d i (putLane i g k j (laneSum T I e j 50) >>= kk) Φ) := by
  subst hn
  have hv : ∀ f, Done T I e.val j.val f → Done T I e.val (j.val + 1)
      ((accM.access (Rect.unit (s := S128x128) (sumOff g k j) S1x16.size (sumOff_inb g k j))).write (Elt F) f (shapeCast S1x16 (laneSum T I e j 50) shapeCasts_S16_S1x16) Finset.univ) := by
    intro f hf x hx
    by_cases hm : x ∈ (accM.access (Rect.unit (s := S128x128) (sumOff g k j) S1x16.size (sumOff_inb g k j))).setOn Finset.univ
    · obtain ⟨y, -, rfl⟩ := Finset.mem_map.mp hm
      rw [View.write_emb_of_mem _ _ (Finset.mem_univ y)]
      refine (cast_eq _ _).trans ?_
      rw [show (accM.access (Rect.unit (s := S128x128) (sumOff g k j) S1x16.size (sumOff_inb g k j))).emb y = _ from sum_emb g k j y]
      obtain ⟨b, rfl⟩ : ∃ b : Fin 16, y = ix2 0 b := ⟨y 1, (eq_ix2 y).trans (congrArg (fun a => ix2 a (y 1)) (Subsingleton.elim (α := Fin 1) _ _))⟩
      have he' : e = ⟨8 * g.val + k.val, he ▸ e.isLt⟩ := Fin.ext he
      pointwise
      exact congrArg (fun r => bag T I r (lane j b) 50) he'
    · rw [View.write_of_not_mem (h := hm)]
      refine hf x ?_
      by_contra hn
      refine hm (Finset.mem_map.mpr ⟨ix2 0 ⟨(x 1).val - 16 * j.val, by omega⟩, Finset.mem_univ _, (sum_emb g k j _).trans ?_⟩)
      refine Eq.trans ?_ (eq_ix2 x).symm
      refine congrArg₂ ix2 (Fin.ext ?_) (Fin.ext ?_)
      · show 8 * g.val + k.val = (x 0).val
        omega
      · show 16 * j.val + ((x 1).val - 16 * j.val) = (x 1).val
        omega
  unfold Pooled
  iintro ⟨%f, Hf, %hf⟩ Hk
  unfold putLane
  iapply (wp_load 𝒱₀ (thr d i) none Set.univ (m := accM) (hl := View.loadsAt_vmem h_S1x16) (S := Finset.univ) (q := fullShare) (f := f) (Finset.subset_univ _)) $$ [Hf]
  · iexact Hf
  iintro Hf
  iapply (wp_store 𝒱₀ (thr d i) none Set.univ (m := accM) (Mk := Finset.univ) (hx := View.stores_vmem_bits_univ h_S1x16 rfl) (hm := .inl rfl)
    (S := Finset.univ) (f := f) (Finset.subset_univ _)) $$ [Hf]
  · iexact Hf
  iintro Hf
  iapply Hk
  iexists _
  isplitl [Hf]; · iexact Hf
  ipureintro; exact hv f hf

/-- Adding up slot `k`, which holds row `e`'s gather, and storing the sum as row `e`. -/
theorem wp_pool (g : Fin k0_t1_loop.trips) (k : Fin 8) (e : Fin 128) (he : e.val = 8 * g.val + k.val) :
    iprop(slotPts d i k (slotVal T I e) ∗ Pooled d i T I e.val 0)
      ⊢ (runs d i (pool i g k) fun _ => iprop(slotPts d i k (slotVal T I e) ∗ Pooled d i T I (e.val + 1) 0) : sProp 𝕄) := by
  iintro ⟨Hs, Hp⟩
  unfold pool
  iapply (Scf.wp_for_bind frame (wpE (defs₀ (F := F)) 𝒱₀ (thr d i) none) Set.univ rowsLp.lb rowsLp.ub rowsLp.st rowsLp_ok _ (addRow i k)
    (fun n acc => iprop(slotPts d i k (slotVal T I e) ∗ ⌜acc = sums T I e n⌝)) ?hb) $$ [Hs]
  case hb =>
    intro t acc
    iintro ⟨Hs, %h⟩
    subst h
    iapply (wp_addRow d i T I k e t); iexact Hs
  · isplitl [Hs]; · iexact Hs
    ipureintro; rfl
  iintro %acc ⟨Hs, %h⟩
  obtain rfl : acc = sums T I e 50 := h
  unfold sums
  iapply (wp_putLane d i T I g k 0 0 rfl e he) $$ Hp; iintro Hp
  iapply (wp_putLane d i T I g k 1 1 rfl e he) $$ Hp; iintro Hp
  iapply (wp_putLane d i T I g k 2 2 rfl e he) $$ Hp; iintro Hp
  iapply (wp_putLane d i T I g k 3 3 rfl e he) $$ Hp; iintro Hp
  iapply (wp_putLane d i T I g k 4 4 rfl e he) $$ Hp; iintro Hp
  iapply (wp_putLane d i T I g k 5 5 rfl e he) $$ Hp; iintro Hp
  iapply (wp_putLane d i T I g k 6 6 rfl e he) $$ Hp; iintro Hp
  rw [← bind_pure (putLane i g k 7 _)]
  iapply (wp_putLane d i T I g k 7 7 rfl e he) $$ Hp; iintro Hp
  simp only [wp_pure]
  imodintro
  isplitl [Hs]; · iexact Hs
  unfold Pooled
  icases Hp with ⟨%f, Hf, %hf⟩
  iexists f
  isplitl [Hf]; · iexact Hf
  ipureintro; exact Done_row T I hf

end Tile

end Cert.Proof.Bag

end
-- ==== Proof.Turn.lean ====
/-
  The ring turning: seven gathers under way and one slot idle before every turn, and one more pooled row after it
  (`wp_turn`); eight turns are a trip of the kernel's loop (`wp_trip`).
-/
module

public import proofs.«01_k».proof.Proof.Steps

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The slot of the ring that pooled row `n` goes through. -/
abbrev slot (n : ℕ) : Fin 8 := Fin.ofNat 8 n
/-- The row the `n`-th gather reads: past the end, the last one again. -/
abbrev row (n : ℕ) : Fin 128 := ⟨min n 127, by omega⟩

variable (d : Dev nD) (i : grid0.Coords) (T : S100000x128.Idx → Elt F .f32) (I : S128x128.Idx → BitVec 32)
variable (qT qI : Fin 8 → PosShare TreeShare) (O : CellTallies nD τ sig (HIx 1)) (W : Waits sig (HIx 1))

/-- A step that turns `P` into `R`, followed by the rest of the program. -/
theorem runs_bind {α : Type} {p : Prog (TEff F i) PUnit} {kk : PUnit → Prog (TEff F i) α} {Φ : α → sProp 𝕄} {P R : sProp 𝕄} (h : P ⊢ runs d i p fun _ => R) :
    P ⊢ iprop((R -∗ runs d i (kk ⟨⟩) Φ) -∗ runs d i (p >>= kk) Φ) := by
  iintro HP Hk
  iapply (Entails.of_eq (wp_bind frame (wpE (defs₀ (F := F)) 𝒱₀ (thr d i) none) Set.univ p kk Φ).symm)
  ihave Hp := h $$ HP
  iapply (wp_wand_r frame (wpE (defs₀ (F := F)) 𝒱₀ (thr d i) none) Set.univ) $$ [Hp Hk]
  isplitl [Hp]; · iexact Hp
  iintro %_ HR
  iapply Hk; iexact HR

/-- Before turn `n`: the seven gathers of rows `n` to `n + 6` under way, the eighth slot idle, the rows below `n` pooled. -/
def St (n : ℕ) : sProp 𝕄 :=
  iprop(Busy d i T I qT qI (slot n) (row n) ∗ Busy d i T I qT qI (slot (n + 1)) (row (n + 1)) ∗ Busy d i T I qT qI (slot (n + 2)) (row (n + 2))
    ∗ Busy d i T I qT qI (slot (n + 3)) (row (n + 3)) ∗ Busy d i T I qT qI (slot (n + 4)) (row (n + 4)) ∗ Busy d i T I qT qI (slot (n + 5)) (row (n + 5))
    ∗ Busy d i T I qT qI (slot (n + 6)) (row (n + 6)) ∗ Idle d i T I qT qI (slot (n + 7)) ∗ Pooled d i T I n 0 ∗ Due (F := F) d i O W)

/-- The outer loop makes sixteen trips. -/
theorem trips_le (g : Fin k0_t1_loop.trips) : g.val < 16 := lt_of_lt_of_le g.isLt k0_t1_abs.2.1

/-- One turn of the ring. -/
theorem wp_turn (hI : ∀ x, (I x).toNat < 100000) (hO : ∀ g, O g none = 0) (g : Fin k0_t1_loop.trips) (k : Fin 8) (n : ℕ) (hn : n = 8 * g.val + k.val) :
    St d i T I qT qI O W n ⊢ (runs d i (turn i g k) fun _ => St d i T I qT qI O W (n + 1) : sProp 𝕄) := by
  have hg := trips_le g
  have hs : slot n = k := Fin.ext (by simp only [Fin.ofNat, hn]; omega)
  have hs7 : slot (n + 7) = k + 7 := Fin.ext (by simp only [Fin.ofNat, Fin.val_add, hn]; omega)
  have hr : (row n).val = n := by show min n 127 = n; omega
  have ho : k0_off3 g (BitVec.ofNat 32 k.val) = ![(row (n + 7)).val, 0] := (k0_off3_eq g k).trans (by
    rw [show min (8 * g.val + k.val + 7) 127 = (row (n + 7)).val from by show _ = min (n + 7) 127; rw [hn]])
  have hs8 : slot (n + 8) = k := Fin.ext (by simp only [Fin.ofNat, hn]; omega)
  unfold St
  rw [show n + 1 + 7 = n + 8 from rfl, show n + 1 + 6 = n + 7 from rfl, hs8, hs7, hs]
  iintro ⟨H0, H1, H2, H3, H4, H5, H6, H7, Hp, Hd⟩
  unfold turn
  iapply (wp_fire d i T I qT qI hI (k + 7) (row (n + 7)) _ _ ho) $$ H7; iintro H7
  iapply (wp_land d i T I qT qI k (row n) O W hO) $$ [H0 Hd]
  · isplitl [H0] <;> iassumption
  iintro ⟨H0, Hd⟩
  unfold Held
  icases H0 with ⟨Hs, Ht, Hl, Hsem⟩
  rw [← bind_pure (pool i g k)]
  iapply (runs_bind d i (wp_pool d i T I g k (row n) (hr.trans hn))) $$ [Hs Hp]
  · isplitl [Hs]; · iexact Hs
    rw [hr]; iexact Hp
  rw [hr]
  iintro ⟨Hs, Hp⟩
  simp only [wp_pure]
  imodintro
  isplitl [H1]; · iexact H1
  isplitl [H2]; · iexact H2
  isplitl [H3]; · iexact H3
  isplitl [H4]; · iexact H4
  isplitl [H5]; · iexact H5
  isplitl [H6]; · iexact H6
  isplitl [H7]; · iexact H7
  isplitr [Hp Hd]
  · unfold Idle Held
    iexists _
    isplitl [Hs]; · iexact Hs
    isplitl [Ht]; · iexact Ht
    isplitl [Hl]; · iexact Hl
    iexact Hsem
  isplitl [Hp] <;> iassumption

/-- Once around the ring. -/
theorem wp_trip (hI : ∀ x, (I x).toNat < 100000) (hO : ∀ g, O g none = 0) (g : Fin k0_t1_loop.trips) :
    St d i T I qT qI O W (8 * g.val) ⊢ (runs d i (trip i g) fun _ => St d i T I qT qI O W (8 * (g.val + 1)) : sProp 𝕄) := by
  iintro H
  unfold trip
  iapply (runs_bind d i (wp_turn d i T I qT qI O W hI hO g 0 (8 * g.val) rfl)) $$ H; iintro H
  iapply (runs_bind d i (wp_turn d i T I qT qI O W hI hO g 1 (8 * g.val + 1) rfl)) $$ H; iintro H
  iapply (runs_bind d i (wp_turn d i T I qT qI O W hI hO g 2 (8 * g.val + 2) rfl)) $$ H; iintro H
  iapply (runs_bind d i (wp_turn d i T I qT qI O W hI hO g 3 (8 * g.val + 3) rfl)) $$ H; iintro H
  iapply (runs_bind d i (wp_turn d i T I qT qI O W hI hO g 4 (8 * g.val + 4) rfl)) $$ H; iintro H
  iapply (runs_bind d i (wp_turn d i T I qT qI O W hI hO g 5 (8 * g.val + 5) rfl)) $$ H; iintro H
  iapply (runs_bind d i (wp_turn d i T I qT qI O W hI hO g 6 (8 * g.val + 6) rfl)) $$ H; iintro H
  iapply (runs_bind d i (wp_turn d i T I qT qI O W hI hO g 7 (8 * g.val + 7) rfl)) $$ H; iintro H
  simp only [wp_pure]
  imodintro
  iexact H

end Cert.Proof.Bag

end
-- ==== Proof.Slots.lean ====
/-
  A tile's block of the rows (`ids_set`, `bag_mine`), and its ring dealt to the eight slots and taken back (`idle_in`,
  `idle_out`).
-/
module

public import proofs.«01_k».proof.Proof.Turn

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## A tile's block of rows -/

section Blocks

variable (i : grid0.Coords)

/-- There are two SparseCores. -/
theorem c_lt : (i 0).val < 2 := (i 0).isLt
/-- Each has sixteen tiles. -/
theorem s_lt : (i 1).val < 16 := (i 1).isLt

/-- The tile's SparseCore. -/
abbrev cI : Fin 2 := ⟨(i 0).val, c_lt i⟩
/-- The tile's number in its SparseCore. -/
abbrev sI : Fin 16 := ⟨(i 1).val, s_lt i⟩

/-- Row `e` of the tile's block, among all the rows. -/
abbrev brow (e : Fin 128) : Fin 4096 := ⟨256 * (i 1).val + 128 * (i 0).val + e.val, by have := c_lt i; have := s_lt i; omega⟩

/-- An element of the tile's index block, placed among all the index rows. -/
theorem ids_emb (x : S128x128.Idx) : (idsBlk i).view.emb x = ix2 (brow i (x 0)) (x 1) := by
  funext a
  match a with
  | 0 => exact Fin.ext (by
      show k0_off1 i 0 + 1 * (x 0).val = 256 * (i 1).val + 128 * (i 0).val + (x 0).val
      rw [k0_off1_eq]; show 256 * (i 1).val + 128 * (i 0).val + 1 * (x 0).val = _; omega)
  | 1 => exact Fin.ext (by
      show k0_off1 i 1 + 1 * (x 1).val = (x 1).val
      rw [k0_off1_eq]; show 0 + 1 * (x 1).val = _; omega)

/-- The pooled rows' block is placed likewise. -/
theorem pooled_emb (x : S128x128.Idx) : (pooledBlk i).view.emb x = ix2 (brow i (x 0)) (x 1) := ids_emb i x

/-- The rows of tile `s` of SparseCore `c`. -/
def blk (c : Fin 2) (s : Fin 16) : Finset S4096x128.Idx := Finset.univ.filter fun y => (y 0).val / 128 = 2 * s.val + c.val

/-- Membership in a tile's rows. -/
theorem mem_blk {c : Fin 2} {s : Fin 16} {y : S4096x128.Idx} : y ∈ blk c s ↔ (y 0).val / 128 = 2 * s.val + c.val := by simp [blk]

/-- The index block the tile copies in is its rows. -/
theorem ids_set : (idsBlk i).view.set = blk (cI i) (sI i) := by
  ext (y : S4096x128.Idx)
  refine Iff.trans ?_ mem_blk.symm
  constructor
  · intro hy
    obtain ⟨x, -, rfl⟩ := Finset.mem_map.mp hy
    rw [ids_emb]
    have h0 : (x 0).val < 128 := (x 0).isLt
    show (256 * (i 1).val + 128 * (i 0).val + (x 0).val) / 128 = 2 * (i 1).val + (i 0).val
    omega
  · intro hy
    have hy' : (y 0).val / 128 = 2 * (i 1).val + (i 0).val := hy
    refine Finset.mem_map.mpr ⟨ix2 ⟨(y 0).val % 128, Nat.mod_lt _ (by decide)⟩ (y 1), Finset.mem_univ _, (ids_emb i _).trans (Eq.trans ?_ (eq_ix2 y).symm)⟩
    refine congrArg₂ ix2 (Fin.ext ?_) rfl
    show 256 * (i 1).val + 128 * (i 0).val + (y 0).val % 128 = (y 0).val
    omega

/-- The pooled block the tile copies out is its rows. -/
theorem pooled_set : (pooledBlk i).view.set = blk (cI i) (sI i) := ids_set i

/-- The tile's own index rows. -/
def mine (ids : S4096x128.Idx → BitVec 32) : S128x128.Idx → BitVec 32 := fun x => ids (ix2 (brow i (x 0)) (x 1))

/-- A sum over the tile's own index rows is the sum over all the index rows, at the row's place among them. -/
theorem bag_mine (T : S100000x128.Idx → Elt F .f32) (ids : S4096x128.Idx → BitVec 32) (e c : Fin 128) (n : ℕ) :
    bag T (mine i ids) e c n = bag T ids (brow i e) c n := by
  induction n with
  | zero => rfl
  | succ n ih => simp only [bag, ih]; rfl

/-- All the pooled rows: row `y 0` adds up the table's rows that index row `y 0` lists. -/
def pooledAll (T : S100000x128.Idx → Elt F .f32) (ids : S4096x128.Idx → BitVec 32) : S4096x128.Idx → Elt F .f32 := fun y => bag T ids (y 0) (y 1) 50

end Blocks

/-! ## The ring's eight slots -/

section Slots

variable (d : Dev nD) (i : grid0.Coords) (T : S100000x128.Idx → Elt F .f32) (I : S128x128.Idx → BitVec 32) (q : PosShare TreeShare)

/-- A conjunction over the eight slots, written out. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  repeat rw [SparseCore.bigSep_insert' (by decide)]
  rw [bigSep_singleton]

/-- There is a slot to share among. -/
theorem eight_pos : 0 < 8 := by decide
/-- An eighth of a share. -/
abbrev eighth (q : PosShare TreeShare) (k : Fin 8) : PosShare TreeShare := pieceOf q 8 eight_pos k

/-- The elements of slot `k`. -/
abbrev slotSet (k : Fin 8) : Finset S8x50x128.Idx := (slotM k).view.set

/-- Two slots are apart. -/
theorem slots_disjoint : ∀ k ∈ (Finset.univ : Finset (Fin 8)), ∀ l ∈ (Finset.univ : Finset (Fin 8)), k ≠ l → Disjoint (slotSet k) (slotSet l) :=
  fun k _ l _ h => Finset.disjoint_left.mpr fun x hk hl => h (((mem_slot k x).mp hk).symm.trans ((mem_slot l x).mp hl))

/-- The slots make up the ring. -/
theorem slots_cover : (Finset.univ : Finset (Fin 8)).biUnion slotSet = Finset.univ :=
  Finset.eq_univ_of_forall fun x => Finset.mem_biUnion.mpr ⟨x 0, Finset.mem_univ _, (mem_slot _ x).mpr rfl⟩

/-- The gathers' source is every element of the table. -/
theorem src_set : srcM.view.set = Finset.univ :=
  Finset.eq_univ_of_forall fun x => Finset.mem_map.mpr ⟨x, Finset.mem_univ _, src_emb x⟩

/-- Holding the ring is holding its slots. -/
theorem ring_slots (f : S8x50x128.Idx → Elt F .f32) :
    (ringM.view.loc (thr d i) ↦{fullShare} f : sProp 𝕄) = bigSep Finset.univ fun k => slotPts d i k f := by
  have h := pointsTo_biUnion (ℓ := ringM.view.loc (thr d i)) (q := fullShare) (f := f) (Val := Elt F) (Ix := HIx 1) (Lvl := ℕ) (Name := ℕ) (U := UU)
    Finset.univ slotSet slots_disjoint
  rw [slots_cover] at h
  exact h

/-- A share of the table is eight eighths of it, one for each slot. -/
theorem tbl_eighths : (tableM.view.loc (thr d i) ↦{q} T : sProp 𝕄) = bigSep Finset.univ fun k => tblPts d i T (eighth q) k := by
  unfold tblPts
  rw [src_set]
  exact pointsTo_piecesOf (ℓ := tableM.view.loc (thr d i)) Finset.univ T eight_pos q

/-- The index rows are eight eighths of them, one for each slot. -/
theorem lst_eighths : (lstPts (F := F) d i I (fun _ => fullShare) 0 Finset.univ : sProp 𝕄) = bigSep Finset.univ fun k => lstPts (F := F) d i I (eighth fullShare) k Finset.univ := by
  unfold lstPts
  have h := pointsTo_piecesOf (Val := Elt F) (Ix := HIx 1) (Name := ℕ) (U := UU) (Lvl := ℕ) (ℓ := idxM.view.loc (thr d i)) Finset.univ I eight_pos fullShare
  exact h

/-- The slots' semaphores, at zero. -/
abbrev slotSems : sProp 𝕄 := bigSep Finset.univ fun k : Fin 8 => semVal (thr d i, SemLoc.dma (slotSem k)) 0

/-- The eight slots with nothing under way hold the ring, the table's share, the index rows and the semaphores. -/
theorem held_all (f : S8x50x128.Idx → Elt F .f32) :
    (bigSep Finset.univ fun k => Held d i T I (eighth q) (eighth fullShare) k f)
      = iprop((ringM.view.loc (thr d i) ↦{fullShare} f) ∗ (tableM.view.loc (thr d i) ↦{q} T) ∗ lstPts (F := F) d i I (fun _ => fullShare) 0 Finset.univ ∗ slotSems (F := F) d i) := by
  rw [ring_slots, tbl_eighths, lst_eighths, ← bigSep_sep', ← bigSep_sep', ← bigSep_sep']
  rfl

/-- A slot that holds known contents is idle. -/
theorem held_idle {qT qI : Fin 8 → PosShare TreeShare} {k : Fin 8} {f : S8x50x128.Idx → Elt F .f32} :
    Held d i T I qT qI k f ⊢ Idle d i T I qT qI k := by
  unfold Idle
  iintro H; iexists f; iexact H

/-- The ring, the table's share and the index rows dealt to the eight slots. -/
theorem idle_in (f : S8x50x128.Idx → Elt F .f32) :
    iprop((ringM.view.loc (thr d i) ↦{fullShare} f) ∗ (tableM.view.loc (thr d i) ↦{q} T) ∗ lstPts (F := F) d i I (fun _ => fullShare) 0 Finset.univ ∗ slotSems (F := F) d i)
      ⊢ (bigSep Finset.univ fun k => Idle d i T I (eighth q) (eighth fullShare) k : sProp 𝕄) := by
  rw [← held_all]
  exact bigSep_mono fun k _ => held_idle d i T I

/-- And taken back from them. -/
theorem idle_out :
    (bigSep Finset.univ fun k => Idle d i T I (eighth q) (eighth fullShare) k)
      ⊢ iprop((∃ f, ringM.view.loc (thr d i) ↦{fullShare} f) ∗ (tableM.view.loc (thr d i) ↦{q} T) ∗ lstPts (F := F) d i I (fun _ => fullShare) 0 Finset.univ ∗ slotSems (F := F) d i) := by
  have e : ∀ g : Fin 8 → S8x50x128.Idx → Elt F .f32, (bigSep Finset.univ fun k => Held d i T I (eighth q) (eighth fullShare) k (g k))
      ⊢ (bigSep Finset.univ fun k => Held d i T I (eighth q) (eighth fullShare) k (fun x => g (x 0) x) : sProp 𝕄) := fun g => bigSep_mono fun k _ => by
    have e : slotPts d i k (g k) = slotPts d i k (fun x => g (x 0) x) := pointsTo_congr fun x hx => by
      rw [show (x : S8x50x128.Idx) 0 = k from (mem_slot k x).mp hx]
    unfold Held
    rw [e]
    exact Idealize.SL.BI.Entails.refl _
  have : Nonempty (S8x50x128.Idx → Elt F .f32) := ⟨fun _ => Scalar.ofBits .f32 0x00000000#32⟩
  unfold Idle
  refine (bigSep_exists_pi Finset.univ (fun k f => Held d i T I (eighth q) (eighth fullShare) k f)).trans ?_
  iintro ⟨%g, H⟩
  ihave H' := ((e g).trans (Entails.of_eq (held_all d i T I q _))) $$ H
  icases H' with ⟨Hr, H⟩
  isplitl [Hr]; · iexists _; iexact Hr
  iexact H

end Slots

end Cert.Proof.Bag

end
-- ==== Proof.Tile.lean ====
/-
  One tile of the gathering kernel (`tile_body`): its block of the index rows comes in, the ring turns over it, and its
  block of the pooled rows goes out, each row the sum of the table's rows that the index row lists.
-/
module

public import proofs.«01_k».proof.Proof.Slots

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- Where the padded ids lie. -/
abbrev iLoc (d : Dev nD) : Loc nD τ sig := (SparseCore.T d).loc main_v0
/-- Where the table lies. -/
abbrev tLoc (d : Dev nD) : Loc nD τ sig := (SparseCore.T d).loc main_arg1
/-- Where the pooled rows lie. -/
abbrev oLoc (d : Dev nD) : Loc nD τ sig := (SparseCore.T d).loc main_v1

variable (d : Dev nD) (i : grid0.Coords)

/-! ## The copies in and out -/

section Copies

variable (ids : S4096x128.Idx → BitVec 32) (O : CellTallies nD τ sig (HIx 1)) (W : Waits sig (HIx 1))

/-- Fetching the tile's index rows. -/
theorem wp_fetchIds (hO : ∀ g, O g none = 0) (fx : S128x128.Idx → BitVec 32) :
    iprop(((idsBlk i).view.loc (thr d i) ↦[(idsBlk i).view.set]{fullShare} ids) ∗ lstPts (F := F) d i fx (fun _ => fullShare) 0 Finset.univ
        ∗ semVal (thr d i, SemLoc.dma cc0_scoped0.sem) 0 ∗ Due (F := F) d i O W)
      ⊢ (runs d i (fetchIds i) fun _ => iprop(((idsBlk i).view.loc (thr d i) ↦[(idsBlk i).view.set]{fullShare} ids)
        ∗ lstPts (F := F) d i (mine i ids) (fun _ => fullShare) 0 Finset.univ ∗ semVal (thr d i, SemLoc.dma cc0_scoped0.sem) 0 ∗ Due (F := F) d i O W) : sProp 𝕄) := by
  have hv : View.write (Elt F) idxM.view fx ((idsBlk i).view.read (Elt F) ids) Finset.univ = mine i ids := by
    rw [View.write_whole_univ]
    funext x
    rw [View.read_apply, ids_emb]
    exact cast_eq _ _
  unfold Due
  iintro ⟨Hi, Hx, Hsem, #Hlv, %W', %hW', HO⟩
  ihave Hmw := (show levAts (K (F := F)).L (K (F := F)).lev ⊢ Transfers.MayWaits (thr d i) (default : HIx 1) O from
    (K (F := F)).mayWaits_none (thr := thr d i) hO) $$ Hlv
  ihave Hx' := (Entails.of_eq (show lstPts (F := F) d i fx (fun _ => fullShare) 0 Finset.univ = (idxM.view.loc (thr d i) ↦{fullShare} (fx : Buf (Elt F) (idxM.view.loc (thr d i)))) from rfl)) $$ Hx
  unfold fetchIds runs
  sl_exec
  rw [show wp_fetchIds.sl.dma0 i ids = (idsBlk i).view.read (Elt F) ids from rfl, hv]
  sl_step
  isplitl [Hi]; · iexact Hi
  isplitl [Hx']; · iexact Hx'
  isplitl [Hsem]; · iexact Hsem
  isplitr; · iexact Hlv
  iexists _; isplitr
  swap; · iexact HO
  ipureintro; intro p hp
  rcases Finset.mem_insert.mp hp with hp | hp; · exact .inr (hp ▸ rfl)
  exact hW' p hp

/-- Writing the tile's pooled rows out. -/
theorem wp_writeOut (hO : ∀ g, O g none = 0) (T : S100000x128.Idx → Elt F .f32) (g : S4096x128.Idx → Elt F .f32) :
    iprop(Pooled d i T (mine i ids) 128 0 ∗ ((pooledBlk i).view.loc (thr d i) ↦[(pooledBlk i).view.set]{fullShare} g)
        ∗ semVal (thr d i, SemLoc.dma cc0_scoped1.sem) 0 ∗ Due (F := F) d i O W)
      ⊢ (runs d i (writeOut i) fun _ => iprop((∃ f, accM.view.loc (thr d i) ↦{fullShare} f)
        ∗ ((pooledBlk i).view.loc (thr d i) ↦[(pooledBlk i).view.set]{fullShare} pooledAll T ids)
        ∗ semVal (thr d i, SemLoc.dma cc0_scoped1.sem) 0 ∗ Due (F := F) d i O W) : sProp 𝕄) := by
  have hv : ∀ f, Done T (mine i ids) 128 0 f →
      ((pooledBlk i).view.loc (thr d i) ↦[(pooledBlk i).view.set]{fullShare} (pooledBlk i).view.writes (Elt F) g [⟨Rect.whole S128x128, (accM.view.read (Elt F) f : S128x128.Idx → Elt F .f32)⟩] : sProp 𝕄)
        = (pooledBlk i).view.loc (thr d i) ↦[(pooledBlk i).view.set]{fullShare} pooledAll T ids := by
    intro f hf
    refine pointsTo_congr fun y hy => ?_
    obtain ⟨x, -, rfl⟩ := Finset.mem_map.mp hy
    have hr := View.read_writes_cons_emb (Val := Elt F) (pooledBlk i).view g (Rect.whole S128x128) (accM.view.read (Elt F) f) [] x
    rw [View.read_apply, show (Rect.whole S128x128).emb x = x from Rect.emb_whole_apply S128x128 x] at hr
    refine ((cast_eq _ _).symm.trans hr).trans ?_
    rw [pooled_emb]
    exact (hf x (.inl (x 0).isLt)).trans (bag_mine i T ids (x 0) (x 1) 50)
  unfold Due Pooled
  iintro ⟨⟨%f, Ha, %hf⟩, Ho, Hsem, #Hlv, %W', %hW', HO⟩
  ihave Hmw := (show levAts (K (F := F)).L (K (F := F)).lev ⊢ Transfers.MayWaits (thr d i) (default : HIx 1) O from
    (K (F := F)).mayWaits_none (thr := thr d i) hO) $$ Hlv
  unfold writeOut runs
  sl_exec
  sl_step
  isplitl [Ha]; · iexists f; iexact Ha
  isplitl [Ho]
  · rw [← hv f hf]; iexact Ho
  isplitl [Hsem]; · iexact Hsem
  isplitr; · iexact Hlv
  iexists _; isplitr
  swap; · iexact HO
  ipureintro; intro p hp
  rcases Finset.mem_insert.mp hp with hp | hp; · exact .inr (hp ▸ rfl)
  exact hW' p hp

end Copies

/-! ## The tile's own memory -/

/-- The slots' semaphores are eight different ones. -/
theorem slotSem_inj : Function.Injective slotSem := by decide

/-- The tile's semaphores: the two copies', the eight slots', and the rest. -/
theorem ownSems0_V : (ownSems0 (thr d i) : sProp 𝕄)
    = iprop(semVal (thr d i, SemLoc.dma cc0_scoped0.sem) 0 ∗ semVal (thr d i, SemLoc.dma cc0_scoped1.sem) 0 ∗ slotSems (F := F) d i
        ∗ bigSep (((ownCells (thr d i)).erase (thr d i, SemLoc.dma cc0_scoped0.sem)).erase (thr d i, SemLoc.dma cc0_scoped1.sem)
            \ Finset.univ.map ⟨fun k => ((thr d i, SemLoc.dma (slotSem k)) : GSem nD τ sig), fun _ _ h => slotSem_inj (SemLoc.dma.inj (Prod.mk.inj h).2)⟩)
            fun g => semVal g 0) := by
  have own : ∀ s : DmaSem sig, (SemLoc.dma s : SemLoc sig).isScoped .scVector = true → ((thr d i, SemLoc.dma s) : GSem nD τ sig) ∈ ownCells (thr d i) :=
    fun s h => mem_ownCells.mpr ⟨rfl, h⟩
  have ne : ∀ s t : DmaSem sig, s ≠ t → ((thr d i, SemLoc.dma s) : GSem nD τ sig) ≠ (thr d i, SemLoc.dma t) :=
    fun s t h e => h (SemLoc.dma.inj (Prod.mk.inj e).2)
  have hk : ∀ k, (SemLoc.dma (slotSem k) : SemLoc sig).isScoped .scVector = true ∧ slotSem k ≠ cc0_scoped0.sem ∧ slotSem k ≠ cc0_scoped1.sem := by decide
  unfold SparseCore.Cfg.ownSems0
  rw [SparseCore.bigSep_erase' (own cc0_scoped0.sem (by decide)),
    SparseCore.bigSep_erase' (Finset.mem_erase.mpr ⟨ne _ _ (by decide), own cc0_scoped1.sem (by decide)⟩),
    SparseCore.bigSep_sdiff_split' (t := Finset.univ.map ⟨fun k => ((thr d i, SemLoc.dma (slotSem k)) : GSem nD τ sig), fun _ _ h => slotSem_inj (SemLoc.dma.inj (Prod.mk.inj h).2)⟩)
      (fun g hg => by
        obtain ⟨k, -, rfl⟩ := Finset.mem_map.mp hg
        exact Finset.mem_erase.mpr ⟨ne _ _ (hk k).2.2, Finset.mem_erase.mpr ⟨ne _ _ (hk k).2.1, own _ (hk k).1⟩⟩),
    bigSep_map]
  rfl

/-- The tile's buffers: its index rows, its ring, its pooled rows, and the rest. -/
theorem ownBufs_V : (ownBufs (thr d i) : sProp 𝕄)
    = iprop((∃ f, (thr d i).loc cc0_scratch0 ↦{fullShare} f) ∗ (∃ f, (thr d i).loc cc0_scratch1 ↦{fullShare} f) ∗ (∃ f, (thr d i).loc cc0_scratch2 ↦{fullShare} f)
        ∗ bigSep ((((ownRefs (τ := τ) (thr d i).2).erase ((thr d i).2.devRef cc0_scratch0)).erase ((thr d i).2.devRef cc0_scratch1)).erase
            ((thr d i).2.devRef cc0_scratch2)) fun b => iprop(∃ f, ((d, b) : Loc nD τ sig) ↦{fullShare} f)) := by
  have own : ∀ b : Ref sig .scVector, ((thr d i).2.devRef b).owner = .proc (thr d i).2 → (thr d i).2.devRef b ∈ ownRefs (τ := τ) (thr d i).2 :=
    fun b h => SparseCore.Cfg.mem_ownRefs_of_owner h
  have ne : ∀ b c : Ref sig .scVector, b ≠ c → (thr d i).2.devRef b ≠ (thr d i).2.devRef c := fun b c h e => h (Proc.devRef_injective _ e)
  unfold SparseCore.Cfg.ownBufs
  refine (SparseCore.bigSep_erase' (own cc0_scratch0 rfl)).trans ?_
  rw [SparseCore.bigSep_erase' (Finset.mem_erase.mpr ⟨ne _ _ (by decide), own cc0_scratch1 rfl⟩),
    SparseCore.bigSep_erase' (Finset.mem_erase.mpr ⟨ne _ _ (by decide), Finset.mem_erase.mpr ⟨ne _ _ (by decide), own cc0_scratch2 rfl⟩⟩)]

/-! ## The tile -/

section Body

variable (T : S100000x128.Idx → Elt F .f32) (ids : S4096x128.Idx → BitVec 32) (q : PosShare TreeShare)

/-- What a tile is handed: its block of the index rows, a share of the table, and its block of the pooled rows at `g`. -/
abbrev TileIO (d : Dev nD) (c : Fin 2) (s : Fin 16) (g : S4096x128.Idx → Elt F .f32) : sProp 𝕄 :=
  iprop((iLoc d ↦[blk c s]{fullShare} (ids : Buf (Elt F) (iLoc d))) ∗ (tLoc d ↦{q} (T : Buf (Elt F) (tLoc d))) ∗ (oLoc d ↦[blk c s]{fullShare} (g : Buf (Elt F) (oLoc d))))

/-- The tile's run: its block of the pooled rows ends as the sums its index rows ask for. -/
theorem tile_body (hF : (K (F := F)).Facts) (hids : ∀ x, (ids x).toNat < 100000) (g : S4096x128.Idx → Elt F .f32)
    (O : CellTallies nD τ sig (HIx 1)) (W : Waits sig (HIx 1)) (hO : ∀ g, O g none = 0) :
    iprop(levAts (K (F := F)).L (K (F := F)).lev ∗ emp ∗ TileIO T ids q d (cI i) (sI i) g
        ∗ scopedBufs (thr d i) ∗ scopedSems0 (thr d i) ∗ owes (thr d i) O W)
      ⊢ (runs d i (cc0__pool_body (F := F) i idsM (Memref.isWhole_whole _) tableM (Memref.isWhole_whole _) pooledM (Memref.isWhole_whole _)
    idxM (Memref.isWhole_whole _) ringM (Memref.isWhole_whole _) accM (Memref.isWhole_whole _) cc0_scratch3 cc0_scoped0 cc0_scoped1)
          fun _ => iprop(TileIO T ids q d (cI i) (sI i) (pooledAll T ids)
            ∗ scopedBufs (thr d i) ∗ scopedSems0 (thr d i) ∗ ∃ W', ⌜∀ p ∈ W', p ∈ W ∨ p.2 = none⌝ ∗ owes (thr d i) O W') : sProp 𝕄) := by
  have hI : ∀ x, (mine i ids x).toNat < 100000 := fun x => hids _
  unfold TileIO
  rw [body_eq, (K (F := F)).scopedBufs_V hF d (cV i) (jV i), SparseCore.Cfg.scopedSems0_V (Val := Elt F) d (cV i) (jV i), ownSems0_V, ownBufs_V]
  iintro ⟨#Hlv, -, ⟨Hi, Ht, Ho⟩, ⟨⟨%fx, Hx⟩, ⟨%fr, Hr⟩, ⟨%fa, Ha⟩, Hbufs⟩, ⟨HsemA, HsemB, Hsl, Hsems⟩, HO⟩
  rw [← ids_set]
  unfold body
  iapply (runs_bind d i (wp_fetchIds d i ids O W hO fx)) $$ [Hi Hx HsemA HO]
  · isplitl [Hi]; · iexact Hi
    isplitl [Hx]; · iexact Hx
    isplitl [HsemA]; · iexact HsemA
    unfold Due
    isplitr; · iexact Hlv
    iexists W; isplitr
    · ipureintro; exact fun p hp => .inl hp
    iexact HO
  iintro ⟨Hi, Hx, HsemA, Hd⟩
  ihave Hall := ((idle_in d i T (mine i ids) q fr).trans (Entails.of_eq (eight _))) $$ [Hr Ht Hx Hsl]
  · isplitl [Hr]; · iexact Hr
    isplitl [Ht]; · iexact Ht
    isplitl [Hx]; · iexact Hx
    iexact Hsl
  icases Hall with ⟨H0, H1, H2, H3, H4, H5, H6, H7⟩
  iapply (wp_fire d i T (mine i ids) (eighth q) (eighth fullShare) hI 0 0 _ _ (k0_off2_eq 0)) $$ H0; iintro H0
  iapply (wp_fire d i T (mine i ids) (eighth q) (eighth fullShare) hI 1 1 _ _ (k0_off2_eq 1)) $$ H1; iintro H1
  iapply (wp_fire d i T (mine i ids) (eighth q) (eighth fullShare) hI 2 2 _ _ (k0_off2_eq 2)) $$ H2; iintro H2
  iapply (wp_fire d i T (mine i ids) (eighth q) (eighth fullShare) hI 3 3 _ _ (k0_off2_eq 3)) $$ H3; iintro H3
  iapply (wp_fire d i T (mine i ids) (eighth q) (eighth fullShare) hI 4 4 _ _ (k0_off2_eq 4)) $$ H4; iintro H4
  iapply (wp_fire d i T (mine i ids) (eighth q) (eighth fullShare) hI 5 5 _ _ (k0_off2_eq 5)) $$ H5; iintro H5
  iapply (wp_fire d i T (mine i ids) (eighth q) (eighth fullShare) hI 6 6 _ _ (k0_off2_eq 6)) $$ H6; iintro H6
  iapply (Scf.wp_for_bind frame (wpE (defs₀ (F := F)) 𝒱₀ (thr d i) none) Set.univ k0_t1_loop.lb k0_t1_loop.ub k0_t1_loop.st k0_t1_ok _ (fun g _ => trip i g)
    (fun n _ => St d i T (mine i ids) (eighth q) (eighth fullShare) O W (8 * n)) ?hb) $$ [H0 H1 H2 H3 H4 H5 H6 H7 Ha Hd]
  case hb =>
    intro g _
    exact wp_trip d i T (mine i ids) (eighth q) (eighth fullShare) O W hI hO g
  · unfold St
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Ha]
    · unfold Pooled
      iexists fa
      isplitl [Ha]; · iexact Ha
      ipureintro; intro x hx; omega
    iexact Hd
  iintro %_ H
  ihave H' := (Entails.of_eq (show St d i T (mine i ids) (eighth q) (eighth fullShare) O W (8 * k0_t1_loop.trips)
    = St d i T (mine i ids) (eighth q) (eighth fullShare) O W 128 from rfl)) $$ H
  unfold St
  icases H' with ⟨H0, H1, H2, H3, H4, H5, H6, H7, Hp, Hd⟩
  iapply (wp_land d i T (mine i ids) (eighth q) (eighth fullShare) 0 127 O W hO) $$ [H0 Hd]
  · isplitl [H0]; · iexact H0
    iexact Hd
  iintro ⟨H0, Hd⟩
  iapply (wp_land d i T (mine i ids) (eighth q) (eighth fullShare) 1 127 O W hO) $$ [H1 Hd]
  · isplitl [H1]; · iexact H1
    iexact Hd
  iintro ⟨H1, Hd⟩
  iapply (wp_land d i T (mine i ids) (eighth q) (eighth fullShare) 2 127 O W hO) $$ [H2 Hd]
  · isplitl [H2]; · iexact H2
    iexact Hd
  iintro ⟨H2, Hd⟩
  iapply (wp_land d i T (mine i ids) (eighth q) (eighth fullShare) 3 127 O W hO) $$ [H3 Hd]
  · isplitl [H3]; · iexact H3
    iexact Hd
  iintro ⟨H3, Hd⟩
  iapply (wp_land d i T (mine i ids) (eighth q) (eighth fullShare) 4 127 O W hO) $$ [H4 Hd]
  · isplitl [H4]; · iexact H4
    iexact Hd
  iintro ⟨H4, Hd⟩
  iapply (wp_land d i T (mine i ids) (eighth q) (eighth fullShare) 5 127 O W hO) $$ [H5 Hd]
  · isplitl [H5]; · iexact H5
    iexact Hd
  iintro ⟨H5, Hd⟩
  iapply (wp_land d i T (mine i ids) (eighth q) (eighth fullShare) 6 127 O W hO) $$ [H6 Hd]
  · isplitl [H6]; · iexact H6
    iexact Hd
  iintro ⟨H6, Hd⟩
  ihave Hall := ((Entails.of_eq (eight _).symm).trans (idle_out d i T (mine i ids) q)) $$ [H0 H1 H2 H3 H4 H5 H6 H7]
  · isplitl [H0]; · iapply (held_idle d i T (mine i ids)) $$ H0
    isplitl [H1]; · iapply (held_idle d i T (mine i ids)) $$ H1
    isplitl [H2]; · iapply (held_idle d i T (mine i ids)) $$ H2
    isplitl [H3]; · iapply (held_idle d i T (mine i ids)) $$ H3
    isplitl [H4]; · iapply (held_idle d i T (mine i ids)) $$ H4
    isplitl [H5]; · iapply (held_idle d i T (mine i ids)) $$ H5
    isplitl [H6]; · iapply (held_idle d i T (mine i ids)) $$ H6
    iexact H7
  icases Hall with ⟨Hr, Ht, Hx, Hsl⟩
  rw [← bind_pure (writeOut i)]
  iapply (runs_bind d i (wp_writeOut d i ids O W hO T g)) $$ [Hp Ho HsemB Hd]
  · isplitl [Hp]; · iexact Hp
    isplitl [Ho]; · iexact Ho
    isplitl [HsemB]; · iexact HsemB
    iexact Hd
  iintro ⟨Ha, Ho, HsemB, Hd⟩
  simp only [wp_pure]
  imodintro
  unfold Due
  icases Hd with ⟨-, HO⟩
  isplitl [Hi Ht Ho]
  · isplitl [Hi]; · iexact Hi
    isplitl [Ht]; · iexact Ht
    iexact Ho
  isplitl [Hx Hr Ha Hbufs]
  · isplitl [Hx]; · iexists _; iexact Hx
    isplitl [Hr]; · iexact Hr
    isplitl [Ha]; · iexact Ha
    iexact Hbufs
  isplitl [HsemA HsemB Hsl Hsems]
  · isplitl [HsemA]; · iexact HsemA
    isplitl [HsemB]; · iexact HsemB
    isplitl [Hsl]; · iexact Hsl
    iexact Hsems
  iexact HO

end Body

end Cert.Proof.Bag

end
-- ==== Proof.Launch.lean ====
/-
  The pooling call as the launch deals it: what each SparseCore is handed, how that splits among its sixteen tiles and
  is gathered back, and the tile's run in the form the launch asks for.
-/
module

public import proofs.«01_k».proof.Proof.Tile

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Shares and rows -/

/-- There is a SparseCore to share among. -/
theorem two_pos' : 0 < 2 := by decide
/-- There is a tile to share among. -/
theorem sixteen_pos : 0 < 16 := by decide

/-- A SparseCore's share of the table. -/
abbrev half (c : Fin 2) : PosShare TreeShare := pieceOf fullShare 2 two_pos' c
/-- A tile's share of the table. -/
abbrev sixteenth (c : Fin 2) (s : Fin 16) : PosShare TreeShare := pieceOf (half c) 16 sixteen_pos s

/-- The rows of SparseCore `c`: every second block of 128. -/
def coreRows (c : Fin 2) : Finset S4096x128.Idx := Finset.univ.filter fun y => (y 0).val / 128 % 2 = c.val

/-- Membership in a SparseCore's rows. -/
theorem mem_coreRows {c : Fin 2} {y : S4096x128.Idx} : y ∈ coreRows c ↔ (y 0).val / 128 % 2 = c.val := by simp [coreRows]

/-- The rows of two tiles of one SparseCore are apart. -/
theorem blk_disjoint (c : Fin 2) : ∀ s ∈ (Finset.univ : Finset (Fin 16)), ∀ s' ∈ (Finset.univ : Finset (Fin 16)), s ≠ s' → Disjoint (blk c s) (blk c s') :=
  fun s _ s' _ h => Finset.disjoint_left.mpr fun y hy hy' => h (Fin.ext (by rw [mem_blk] at hy hy'; omega))

/-- A SparseCore's rows are its tiles' rows together. -/
theorem blk_cover (c : Fin 2) : (Finset.univ : Finset (Fin 16)).biUnion (blk c) = coreRows c := by
  ext y
  rw [mem_coreRows, Finset.mem_biUnion]
  have hy : (y 0).val < 4096 := (y 0).isLt
  constructor
  · rintro ⟨s, -, hs⟩
    rw [mem_blk] at hs
    omega
  · intro h
    refine ⟨⟨(y 0).val / 128 / 2, by omega⟩, Finset.mem_univ _, mem_blk.mpr ?_⟩
    show (y 0).val / 128 = 2 * ((y 0).val / 128 / 2) + c.val
    omega

/-- The rows of the two SparseCores are apart. -/
theorem core_disjoint : ∀ c ∈ (Finset.univ : Finset (Fin 2)), ∀ c' ∈ (Finset.univ : Finset (Fin 2)), c ≠ c' → Disjoint (coreRows c) (coreRows c') :=
  fun c _ c' _ h => Finset.disjoint_left.mpr fun y hy hy' => h (Fin.ext ((mem_coreRows.mp hy).symm.trans (mem_coreRows.mp hy')))

/-- The two SparseCores' rows are all the rows. -/
theorem core_cover : (Finset.univ : Finset (Fin 2)).biUnion coreRows = Finset.univ :=
  Finset.eq_univ_of_forall fun y => Finset.mem_biUnion.mpr
    ⟨⟨(y 0).val / 128 % 2, Nat.mod_lt _ (by decide)⟩, Finset.mem_univ _, mem_coreRows.mpr rfl⟩

/-! ## What the call is handed -/

section Deal

variable (Tb : S100000x128.Idx → Elt F .f32) (ids : S4096x128.Idx → BitVec 32) (d : Dev nD) (g : S4096x128.Idx → Elt F .f32)

/-- What SparseCore `c` is handed: its index rows, its share of the table, its pooled rows at `g`. -/
abbrev CoreIO (c : Fin 2) : sProp 𝕄 :=
  iprop((iLoc d ↦[coreRows c]{fullShare} (ids : Buf (Elt F) (iLoc d))) ∗ (tLoc d ↦{half c} (Tb : Buf (Elt F) (tLoc d))) ∗ (oLoc d ↦[coreRows c]{fullShare} (g : Buf (Elt F) (oLoc d))))

/-- What the call is handed: all the index rows, the table, all the pooled rows at `g`. -/
abbrev CallIO : sProp 𝕄 :=
  iprop((iLoc d ↦{fullShare} (ids : Buf (Elt F) (iLoc d))) ∗ (tLoc d ↦{fullShare} (Tb : Buf (Elt F) (tLoc d))) ∗ (oLoc d ↦{fullShare} (g : Buf (Elt F) (oLoc d))))

/-- A SparseCore's holdings are its tiles' together. -/
theorem core_tiles (c : Fin 2) : CoreIO Tb ids d g c = bigSep Finset.univ fun s => TileIO Tb ids (sixteenth c s) d c s g := by
  have h1 := pointsTo_biUnion (ℓ := iLoc d) (q := fullShare) (f := (ids : Buf (Elt F) (iLoc d))) (Val := Elt F) (Ix := HIx 1) (Lvl := ℕ) (Name := ℕ) (U := UU)
    Finset.univ (blk c) (blk_disjoint c)
  have h2 := pointsTo_piecesOf (Val := Elt F) (Ix := HIx 1) (Name := ℕ) (U := UU) (Lvl := ℕ) (ℓ := tLoc d) Finset.univ (Tb : Buf (Elt F) (tLoc d)) sixteen_pos (half c)
  have h3 := pointsTo_biUnion (ℓ := oLoc d) (q := fullShare) (f := (g : Buf (Elt F) (oLoc d))) (Val := Elt F) (Ix := HIx 1) (Lvl := ℕ) (Name := ℕ) (U := UU)
    Finset.univ (blk c) (blk_disjoint c)
  rw [blk_cover] at h1 h3
  unfold CoreIO
  rw [h1, h2, h3, ← bigSep_sep', ← bigSep_sep']

/-- The call's holdings are its SparseCores' together. -/
theorem call_cores : CallIO Tb ids d g = bigSep Finset.univ fun c => CoreIO Tb ids d g c := by
  have h1 := pointsTo_biUnion (ℓ := iLoc d) (q := fullShare) (f := (ids : Buf (Elt F) (iLoc d))) (Val := Elt F) (Ix := HIx 1) (Lvl := ℕ) (Name := ℕ) (U := UU)
    Finset.univ coreRows core_disjoint
  have h2 := pointsTo_piecesOf (Val := Elt F) (Ix := HIx 1) (Name := ℕ) (U := UU) (Lvl := ℕ) (ℓ := tLoc d) Finset.univ (Tb : Buf (Elt F) (tLoc d)) two_pos' fullShare
  have h3 := pointsTo_biUnion (ℓ := oLoc d) (q := fullShare) (f := (g : Buf (Elt F) (oLoc d))) (Val := Elt F) (Ix := HIx 1) (Lvl := ℕ) (Name := ℕ) (U := UU)
    Finset.univ coreRows core_disjoint
  rw [core_cover] at h1 h3
  unfold CallIO
  rw [h1, h2, h3, ← bigSep_sep', ← bigSep_sep']

end Deal

/-! ## The call's record, and the obligations the launch asks of it -/

section Call

variable (Tb : Dev nD → S100000x128.Idx → Elt F .f32) (ids : Dev nD → S4096x128.Idx → BitVec 32) (g : Dev nD → S4096x128.Idx → Elt F .f32)

/-- The call's operands and results: pooled rows at `g` going in, at the sums coming out. -/
def P : (K (F := F)).Pay (nD := nD) (Val := Elt F) (Name := ℕ) (U := UU) where
  st := fun q d c => match q with | 0 => CoreIO (Tb d) (ids d) d (g d) c
  dn := fun q d c => match q with | 0 => CoreIO (Tb d) (ids d) d (pooledAll (Tb d) (ids d)) c
  go := fun q d c i => match q, c, i with | 0, c, i => TileIO (Tb d) (ids d) (sixteenth c i) d c i (g d)
  td := fun q d c i => match q, c, i with | 0, c, i => TileIO (Tb d) (ids d) (sixteenth c i) d c i (pooledAll (Tb d) (ids d))
  x := fun _ _ => iprop(emp)

/-- What the call hands over can be kept in an invariant. -/
instance P_storable : (P Tb ids g).IsStorable where
  st q d c := match q, c with | 0, c => (inferInstance : BI.Storable (upEmb : UEmb _ 𝕄) (CoreIO (Tb d) (ids d) d (g d) c))
  dn q d c := match q, c with | 0, c => (inferInstance : BI.Storable (upEmb : UEmb _ 𝕄) (CoreIO (Tb d) (ids d) d (pooledAll (Tb d) (ids d)) c))
  go q d c i := match q, c, i with | 0, c, i => (inferInstance : BI.Storable (upEmb : UEmb _ 𝕄) (TileIO (Tb d) (ids d) (sixteenth c i) d c i (g d)))
  td q d c i := match q, c, i with
    | 0, c, i => (inferInstance : BI.Storable (upEmb : UEmb _ 𝕄) (TileIO (Tb d) (ids d) (sixteenth c i) d c i (pooledAll (Tb d) (ids d))))

/-- The grid point of tile `s` of SparseCore `c`. -/
def point (c : Fin (grid0.bound 0)) (s : Fin (grid0.bound 1)) : grid0.Coords :=
  fun | 0 => c | 1 => s | ⟨_ + 2, h⟩ => absurd h (Nat.not_lt.2 (Nat.le_add_left _ _))

/-- A tile's body is the pooling kernel at its grid point. -/
theorem defs₀_tile (c : Fin τ.nSC) (s : Fin τ.nSub) :
    defs₀ (F := F) (.scVector c s) 0 ()
      = SparseCore.onTile hcore0 hsub0 (fun c s => cc0__pool_body (F := F) (point c s) idsM (Memref.isWhole_whole _) tableM (Memref.isWhole_whole _) pooledM (Memref.isWhole_whole _)
          idxM (Memref.isWhole_whole _) ringM (Memref.isWhole_whole _) accM (Memref.isWhole_whole _) cc0_scratch3 cc0_scoped0 cc0_scoped1) ⟨⟩ c s := rfl

/-- A tile leaves no waits but its own. -/
theorem weaken_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right Or.inl
  iexact HO

set_option maxRecDepth 16384 in
/-- Every tile's run, as the launch asks for it. -/
theorem tileObl (hids : ∀ d x, (ids d x).toNat < 100000) : (K (F := F)).TileObl (D (F := F)) 𝒱 (P Tb ids g) v₀ 0 := by
  intro d c i O W hO _ _
  simp only [show (P Tb ids g).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (point ⟨_, hci.1⟩ ⟨_, hci.2⟩) (Tb d) (ids d) (sixteenth c i) facts (hids d) (g d) O W hO).trans (wp_mono frame _ _ fun _ => weaken_waits)

/-- A SparseCore's holdings go to its tiles and come back from them. -/
theorem vecSplit : (K (F := F)).VecSplit' (P Tb ids g) 0 := by
  intro d c
  show CoreIO (Tb d) (ids d) d (g d) c ⊢ |={Set.univ}=> iprop((bigSep Finset.univ fun i : Fin 16 => TileIO (Tb d) (ids d) (sixteenth c i) d c i (g d))
      ∗ ((bigSep Finset.univ fun i : Fin 16 => TileIO (Tb d) (ids d) (sixteenth c i) d c i (pooledAll (Tb d) (ids d))) -∗ CoreIO (Tb d) (ids d) d (pooledAll (Tb d) (ids d)) c))
  rw [core_tiles, core_tiles]
  iintro H
  imodintro
  isplitl [H]; · iexact H
  iintro H
  iexact H

/-- What the call hands to all SparseCores is the whole of its operands and results. -/
theorem st_eq (d : Dev nD) : (bigSep Finset.univ fun c : Fin ((K (F := F)).nCore 0) => (P Tb ids g).st 0 d c) = CallIO (Tb d) (ids d) d (g d) :=
  (call_cores (Tb d) (ids d) d (g d)).symm

/-- What all SparseCores hand back is the whole of them, pooled. -/
theorem dn_eq (d : Dev nD) : (bigSep Finset.univ fun c : Fin ((K (F := F)).nCore 0) => (P Tb ids g).dn 0 d c) = CallIO (Tb d) (ids d) d (pooledAll (Tb d) (ids d)) :=
  (call_cores (Tb d) (ids d) d (pooledAll (Tb d) (ids d))).symm

end Call

end Cert.Proof.Bag

end
-- ==== Proof.Region.lean ====
/-
  The classifier call: one block of scores (`wp_block`), the proof data of the two-point pipeline at given operands,
  what the pipeline leaves in the scores' array, and the call as a region of the host program.
-/
module

public import proofs.«01_k».proof.Proof.Launch
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Value
public import Idealize.ShloMosaic.Lib.VecWindow
public import Idealize.ShloMosaic.Lib.Pipeline.FrameBody
public import Idealize.ShloMosaic.Lib.Pipeline.RegionsLoop
public import Idealize.ShloMosaic.Lib.Pipeline.Frame
public import Idealize.ShloMosaic.Lib.Pipeline.Regions

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## One block of scores -/

/-- Two zeros, as the constant function. -/
theorem zeros2 : (![0, 0] : Fin 2 → ℕ) = fun _ => 0 := funext fun a => by fin_cases a <;> rfl

/-- The body at one grid point: from the classifier's matrix, 2048 pooled rows and the offsets, the block of scores. -/
theorem wp_block (d : Dev nD) (i : grid1.Coords) (M1 : Memref sig .tc .vmem S1000x128 .f32) (h1 : M1.IsWhole) (M2 : Memref sig .tc .vmem S2048x128 .f32) (h2 : M2.IsWhole)
    (M3 : Memref sig .tc .vmem S1000x1 .f32) (h3 : M3.IsWhole) (M4 : Memref sig .tc .vmem S1000x2048 .f32) (h4 : M4.IsWhole)
    (X1 : S1000x128.Idx → Elt F .f32) (X2 : S2048x128.Idx → Elt F .f32) (X3 : S1000x1.Idx → Elt F .f32) (X4 : S1000x2048.Idx → Elt F .f32) :
    iprop(owns (T d) M1 fullShare X1 ∗ owns (T d) M2 fullShare X2 ∗ owns (T d) M3 fullShare X3 ∗ owns (T d) M4 fullShare X4)
      ⊢ (wp frame (wpE (defs₀ (F := F)) 𝒱₀ (T d) none) Set.univ (cc1__mm_body (F := F) i M1 h1 M2 h2 M3 h3 M4 h4)
          fun _ => iprop(owns (T d) M1 fullShare X1 ∗ owns (T d) M2 fullShare X2 ∗ owns (T d) M3 fullShare X3 ∗ owns (T d) M4 fullShare (k1_pay1 X1 X2 X3)) : sProp 𝕄) := by
  rw [cc1__mm_body_eq_skeleton]
  unfold cc1__mm_body_skel owns
  iintro ⟨⟨%f1, %e1, H1⟩, ⟨%f2, %e2, H2⟩, ⟨%f3, %e3, H3⟩, ⟨%f4, -, H4⟩⟩
  sl_exec
  simp only [wp_pure, wp_ret]
  imodintro
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _
  isplitr; swap; · iexact H4
  ipureintro
  refine (View.read_writes_full _ _ _ _ _).trans ?_
  rw [View.readAt_eq_ld, View.readAt_eq_ld, View.readAt_eq_ld, View.ld_unit_zero zeros2, View.ld_unit_zero zeros2, View.ld_unit_zero zeros2, e1, e2, e3]

/-! ## The pipeline's proof data -/

/-- Rows `2048 t …` of the pooled rows. -/
def rowsAt (Pl : S4096x128.Idx → Elt F .f32) (t : ℕ) : S2048x128.Idx → Elt F .f32 := fun x => Pl (ix2 (Fin.ofNat 4096 (2048 * t + (x 0).val)) (x 1))

/-- All the scores: column `n` is column `n % 2048` of block `n / 2048`. -/
def scores (W1 : S1000x128.Idx → Elt F .f32) (Pl : S4096x128.Idx → Elt F .f32) (b1 : S1000x1.Idx → Elt F .f32) : S1000x4096.Idx → Elt F .f32 :=
  fun y => k1_pay1 W1 (rowsAt Pl ((y 1).val / 2048)) b1 (ix2 (y 0) (Fin.ofNat 2048 (y 1).val))

section Data

variable (Vl : Valuation τ sig (Elt F))

/-- The classifier's matrix as the call finds it. -/
abbrev vW : S1000x128.Idx → Elt F .f32 := Vl (Proc.devRef .tc main_v2)
/-- The pooled rows as the call finds them. -/
abbrev vP : S4096x128.Idx → Elt F .f32 := Vl (Proc.devRef .tc main_v1)
/-- The offsets as the call finds them. -/
abbrev vB : S1000x1.Idx → Elt F .f32 := Vl (Proc.devRef .tc main_v3)

/-- The waits recorded before the call: those of the pooling call. -/
def before (d : Dev nD) : Set (SemLoc sig × HIx 1) := {p | (K (F := F)).lev (T d, p.1) p.2 ≤ 8}

/-- The matrix's block at a point, as the call finds it. -/
abbrev blk0 (t : Fin cfg1.N) : S1000x128.Idx → Elt F .f32 := ((cfg1.win 0).blk t).view.read (Elt F) (Vl (Proc.devRef .tc main_v2))
/-- The pooled rows' block at a point. -/
abbrev blk1 (t : Fin cfg1.N) : S2048x128.Idx → Elt F .f32 := ((cfg1.win 1).blk t).view.read (Elt F) (Vl (Proc.devRef .tc main_v1))
/-- The offsets' block at a point. -/
abbrev blk2 (t : Fin cfg1.N) : S1000x1.Idx → Elt F .f32 := ((cfg1.win 2).blk t).view.read (Elt F) (Vl (Proc.devRef .tc main_v3))

/-- The call's proof data: the arrays as found; every operand's buffer left as it was and the result's at the block of scores;
    nothing owed. -/
def dat (d : Dev nD) : Pipeline.Dat τ (Elt F) (HIx 1) ℕ UU ℕ cfg1 d where
  A w := Vl (Proc.devRef .tc (Pipeline.arrRef spec1 w))
  after w t := match w with
    | ⟨0, _⟩ => blk0 Vl t
    | ⟨1, _⟩ => blk1 Vl t
    | ⟨2, _⟩ => blk2 Vl t
    | ⟨3, _⟩ => k1_pay1 (blk0 Vl t) (blk1 Vl t) (blk2 Vl t)
  Φ _ := Pipeline.scopedRest (Ix := HIx 1) (Name := ℕ) (U := UU) (Lvl := ℕ) (Val := Elt F) spec1 d
  q _ := fullShare
  owed _ := 0
  recorded _ := before (F := F) d

/-- The matrix's staging buffer before a point: its block. -/
theorem before_0 (d : Dev nD) (t : Fin cfg1.N) (X : (cfg1.win 0).block.Idx → Elt F (cfg1.win 0).elt) : (dat Vl d).before 0 t X = blk0 Vl t :=
  ((dat Vl d).before_in_eq_fetched 0 rfl (fun _ => rfl) (fun _ _ _ => rfl) (fun _ => rfl) t X).trans rfl

/-- The pooled rows' staging buffer before a point: their block. -/
theorem before_1 (d : Dev nD) (t : Fin cfg1.N) (X : (cfg1.win 1).block.Idx → Elt F (cfg1.win 1).elt) : (dat Vl d).before 1 t X = blk1 Vl t :=
  ((dat Vl d).before_in_eq_fetched 1 rfl (fun _ => rfl) (fun _ _ _ => rfl) (fun _ => rfl) t X).trans rfl

/-- The offsets' staging buffer before a point: their block. -/
theorem before_2 (d : Dev nD) (t : Fin cfg1.N) (X : (cfg1.win 2).block.Idx → Elt F (cfg1.win 2).elt) : (dat Vl d).before 2 t X = blk2 Vl t :=
  ((dat Vl d).before_in_eq_fetched 2 rfl (fun _ => rfl) (fun _ _ _ => rfl) (fun _ => rfl) t X).trans rfl

/-- The body at every grid point, from its buffers' contents to what the data say it leaves. -/
theorem body_obligation (d : Dev nD) : Pipeline.BodyObligation (dat Vl d) (defs₀ (F := F)) 𝒱₀ (none : HIx 1) Set.univ := fun t => by
  rw [bigSep_W1, bigSep_W1]
  rw [show (dat Vl d).Φ t.succ = (dat Vl d).Φ t.castSucc from rfl,
    show (dat Vl d).owesAt none t.succ = (dat Vl d).owesAt none t.castSucc from rfl]
  iintro ⟨HΦ, Howes, ⟨%d0, H0⟩, ⟨%d1, H1⟩, ⟨%d2, H2⟩, ⟨%d3, H3⟩⟩
  rw [before_0, before_1, before_2]
  iapply (wp_wand_r frame (wpE (defs₀ (F := F)) 𝒱₀ (T d) none) Set.univ)
  isplitl [H0 H1 H2 H3]
  · iapply (wp_block d (grid1.coords t) _ (hstage1_0 ((cfg1.slots t 0).cast nbuf1_0)) _ (hstage1_1 ((cfg1.slots t 1).cast nbuf1_1)) _
      (hstage1_2 ((cfg1.slots t 2).cast nbuf1_2)) _ (hstage1_3 ((cfg1.slots t 3).cast nbuf1_3)) _ _ _ _)
    isplitl [H0]; · iexact H0
    isplitl [H1]; · iexact H1
    isplitl [H2]; · iexact H2
    iexact H3
  iintro %_ ⟨H0, H1, H2, H3⟩
  isplitl [HΦ]; · iexact HΦ
  isplitl [Howes]; · iexact Howes
  isplitl [H0]; · iexact H0
  isplitl [H1]; · iexact H1
  isplitl [H2]; · iexact H2
  iexact H3

/-! ## What the pipeline leaves -/

/-- The matrix's block is the whole matrix at every point. -/
theorem blk0_eq (t : Fin cfg1.N) : blk0 Vl t = vW Vl := by
  funext x
  refine congrArg (vW Vl) (funext fun a => Fin.ext ?_)
  have e : win1_0.index t 0 * win1_0.size 0 = 0 ∧ win1_0.index t 1 * win1_0.size 1 = 0 := by rcases fin_N1 t with rfl | rfl <;> decide +kernel
  match a with
  | ⟨0, _⟩ => show win1_0.index t 0 * win1_0.size 0 + 1 * (x 0).val = (x 0).val; omega
  | ⟨1, _⟩ => show win1_0.index t 1 * win1_0.size 1 + 1 * (x 1).val = (x 1).val; omega

/-- The offsets' block is all the offsets at every point. -/
theorem blk2_eq (t : Fin cfg1.N) : blk2 Vl t = vB Vl := by
  funext x
  refine congrArg (vB Vl) (funext fun a => Fin.ext ?_)
  have e : win1_2.index t 0 * win1_2.size 0 = 0 ∧ win1_2.index t 1 * win1_2.size 1 = 0 := by rcases fin_N1 t with rfl | rfl <;> decide +kernel
  match a with
  | ⟨0, _⟩ => show win1_2.index t 0 * win1_2.size 0 + 1 * (x 0).val = (x 0).val; omega
  | ⟨1, _⟩ => show win1_2.index t 1 * win1_2.size 1 + 1 * (x 1).val = (x 1).val; omega

/-- The pooled rows' block at point `t` is the `t`-th 2048 of them. -/
theorem blk1_eq (t : Fin cfg1.N) : blk1 Vl t = rowsAt (vP Vl) t.val := by
  funext x
  refine congrArg (vP Vl) (funext fun a => Fin.ext ?_)
  have e : win1_1.index t 0 * win1_1.size 0 = 2048 * t.val ∧ win1_1.index t 1 * win1_1.size 1 = 0 ∧ t.val < 2 := by rcases fin_N1 t with rfl | rfl <;> decide +kernel
  have h0 : (x 0).val < 2048 := (x 0).isLt
  match a with
  | ⟨0, _⟩ => show win1_1.index t 0 * win1_1.size 0 + 1 * (x 0).val = (2048 * t.val + (x 0).val) % 4096; omega
  | ⟨1, _⟩ => show win1_1.index t 1 * win1_1.size 1 + 1 * (x 1).val = (x 1).val; omega

/-- Point `t` writes back its block of all the scores. -/
theorem flushed_eq (d : Dev nD) (t : Fin cfg1.N) :
    (dat Vl d).flushed 3 t = ((cfg1.win 3).blk t).view.read (Elt F) (scores (vW Vl) (vP Vl) (vB Vl)) := by
  show k1_pay1 (blk0 Vl t) (blk1 Vl t) (blk2 Vl t) = _
  rw [blk0_eq, blk1_eq, blk2_eq]
  funext x
  have e : win1_3.index t 0 * win1_3.size 0 = 0 ∧ win1_3.index t 1 * win1_3.size 1 = 2048 * t.val ∧ t.val < 2 := by rcases fin_N1 t with rfl | rfl <;> decide +kernel
  have h1 : (x 1).val < 2048 := (x 1).isLt
  have hx : (((cfg1.win 3).blk t).view.emb x : S1000x4096.Idx) = ix2 (x 0) (Fin.ofNat 4096 (2048 * t.val + (x 1).val)) := funext fun a => Fin.ext (by
    match a with
    | ⟨0, _⟩ => show win1_3.index t 0 * win1_3.size 0 + 1 * (x 0).val = (x 0).val; omega
    | ⟨1, _⟩ => show win1_3.index t 1 * win1_3.size 1 + 1 * (x 1).val = (2048 * t.val + (x 1).val) % 4096; omega)
  show _ = scores (vW Vl) (vP Vl) (vB Vl) (((cfg1.win 3).blk t).view.emb x)
  rw [hx]
  unfold scores
  have hq : (2048 * t.val + (x 1).val) % 4096 / 2048 = t.val := by omega
  have hr : Fin.ofNat 2048 ((2048 * t.val + (x 1).val) % 4096) = x 1 := Fin.ext (show (2048 * t.val + (x 1).val) % 4096 % 2048 = (x 1).val by omega)
  show _ = k1_pay1 (vW Vl) (rowsAt (vP Vl) ((2048 * t.val + (x 1).val) % 4096 / 2048)) (vB Vl) (ix2 (x 0) (Fin.ofNat 2048 ((2048 * t.val + (x 1).val) % 4096)))
  rw [hq, hr]
  exact congrArg _ (funext fun a => match a with | ⟨0, _⟩ => rfl | ⟨1, _⟩ => rfl)

/-- The two blocks of scores cover the scores' array. -/
theorem cover (y : S1000x4096.Idx) : ∃ t : Fin cfg1.N, (cfg1.win 3).flush t = true ∧ y ∈ ((cfg1.win 3).blk t).view.set := by
  have h0 : (y 0).val < 1000 := (y 0).isLt
  have h1 : (y 1).val < 4096 := (y 1).isLt
  have hN : cfg1.N = 2 := N_1
  refine ⟨⟨(y 1).val / 2048, by omega⟩, flush1_3 _, ?_⟩
  generalize ht : (⟨(y 1).val / 2048, by omega⟩ : Fin cfg1.N) = t
  have hv : (y 1).val / 2048 = t.val := congrArg Fin.val ht
  show y ∈ ((View.whole main_v4).slice (win1_3.rect t)).set
  rw [View.set_slice_whole, Rect.mem_set_unit]
  have e : win1_3.index t 0 * win1_3.size 0 = 0 ∧ win1_3.xsize (grid1.coords t) 0 = 1000 ∧ win1_3.index t 1 * win1_3.size 1 = 2048 * t.val
      ∧ win1_3.xsize (grid1.coords t) 1 = 2048 := by rcases fin_N1 t with rfl | rfl <;> decide +kernel
  intro a
  match a with
  | ⟨0, _⟩ => show win1_3.index t 0 * win1_3.size 0 ≤ (y 0).val ∧ (y 0).val < win1_3.index t 0 * win1_3.size 0 + win1_3.xsize (grid1.coords t) 0; omega
  | ⟨1, _⟩ => show win1_3.index t 1 * win1_3.size 1 ≤ (y 1).val ∧ (y 1).val < win1_3.index t 1 * win1_3.size 1 + win1_3.xsize (grid1.coords t) 1; omega

/-- The scores' array after the call. -/
theorem final (d : Dev nD) : (dat Vl d).arrAt 3 cfg1.N = scores (vW Vl) (vP Vl) (vB Vl) :=
  (dat Vl d).arrAt_eq_of_cover 3 _ (fun t _ => flushed_eq Vl d t) cover

end Data

/-! ## The call as a region of the host program -/

/-- No table is prefetched, so nothing is asked of one. -/
abbrev adm : (p : Fin 1) → (pcfgs (F := F) p).Adm := fun p => (cfgs p).toPCfg_adm

/-- The pipeline's rounds in the ghost state: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- The pipeline's rounds lie in the program's own part of the ghost state. -/
instance EP_landsIn : (EP : Emb UP 𝕄).LandsIn (upEmb : UEmb _ 𝕄) := by unfold EP; infer_instance

section Region

variable (Vl : Valuation τ sig (Elt F))

/-- The proof data of the program's one pipeline. -/
def pdats : (p : Fin 1) → (c : Dev nD) → Pipeline.Dat τ (Elt F) (HIx 1) ℕ UU ℕ (Pipeline.pin (pcfgs (F := F)) adm p) c
  | ⟨0, _⟩ => fun c => dat Vl c

/-- The buffers after the call: the scores' array at the scores, the others as before. -/
def withScores : Valuation τ sig (Elt F) := Function.update Vl (Proc.devRef .tc main_v4) (scores (vW Vl) (vP Vl) (vB Vl))

/-- The call leaves every other buffer as it was. -/
theorem withScores_ne (b : Ref sig .tc) (h : b ≠ main_v4) : withScores Vl (Proc.devRef .tc b) = Vl (Proc.devRef .tc b) :=
  Function.update_of_ne (fun e => h (Proc.devRef_injective _ e)) _ _

/-- What a core owes around the call: nothing, its recorded waits those of the pooling call. -/
abbrev idle (d : Dev nD) : sProp 𝕄 := iprop(∃ W, ⌜(K (F := F)).WBelow (T d) W 8⌝ ∗ owes (T d) (0 : CellTallies nD τ sig (HIx 1)) W)

set_option backward.isDefEq.respectTransparency.types false in
/-- The region: entered from the unscoped buffers at `Vl`, left with the scores' array at the scores. -/
def region : Pipeline.RegionSeg (pcfgs (F := F)) adm (pdats Vl) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation Vl c).loose
  hwaits := Pipeline.hwaits_of_owed_zero _ _ _ _ (K (F := F)).L (K (F := F)).lev 0 fun _ _ => rfl
  pre c := iprop(unscopedBufs c (fun b => Vl (Proc.devRef .tc b)) ∗ idle c)
  post c := iprop(unscopedBufs c (fun b => withScores Vl (Proc.devRef .tc b)) ∗ idle c)
  X _ := BI.emp
  Y _ := BI.emp
  Z c := Pipeline.unscopedRest (Ix := HIx 1) (Name := ℕ) (U := UU) (Lvl := ℕ) spec1 c (fun b => Vl (Proc.devRef .tc b))
  hentry c := by
    rw [Pipeline.ownSems0_none]
    have hsplit := Pipeline.arrays_of_unscopedBufs (p := 0) (pcfgs (F := F)) adm (pdats Vl) launch1.win launch1.arr_whole c
      ((pdats Vl 0 c).share_full fun _ => rfl) (fun b => Vl (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats Vl 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats Vl 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats Vl) ((pdats Vl 0 c).share_full fun _ => rfl) (fun b => Vl (Proc.devRef .tc b)) (fun b => withScores Vl (Proc.devRef .tc b)) ((pdats Vl 0 c).arrAt · cfg1.N)
      (fun w => by
        fin_cases w
        · exact ((pdats Vl 0 c).arrAt_in 0 rfl _).trans (withScores_ne Vl main_v2 (by decide)).symm
        · exact ((pdats Vl 0 c).arrAt_in 1 rfl _).trans (withScores_ne Vl main_v1 (by decide)).symm
        · exact ((pdats Vl 0 c).arrAt_in 2 rfl _).trans (withScores_ne Vl main_v3 (by decide)).symm
        · exact (final Vl c).trans (Function.update_self (Proc.devRef .tc main_v4) _ Vl).symm)
      (fun b hb => withScores_ne Vl b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ 8; rw [SparseCore.Cfg.lev_none]; exact Nat.zero_le _
    iexact HO

/-- The classifier call inside the host program. -/
theorem wp_classify (d : Dev nD) (Φ : PUnit → sProp 𝕄) :
    iprop(levAts (K (F := F)).L (K (F := F)).lev ∗ boundary (T d) ∗ StableHlo.held (T d) (Pipeline.ucRefs τ sig) Vl ∗ idle d
        ∗ Pipeline.cellsGhost (Pipeline.pin (pcfgs (F := F)) adm) EP 0 d ∗ Pipeline.toksInit (Pipeline.pin (pcfgs (F := F)) adm) EP 0 d
        ∗ (iprop(boundary (T d) ∗ StableHlo.held (T d) (Pipeline.ucRefs τ sig) (withScores Vl) ∗ idle d) -∗ Φ ⟨⟩))
      ⊢ wp frame (wpE ((K (F := F)).defs (D (F := F))) 𝒱 (T d) none) Set.univ
          (Prog.lift (.customCall (SparseCore.inner (Pipeline.entry 0)) ())) Φ := by
  have hlift := (K (F := F)).wp_liftProg (D (F := F)) 𝒱 (T d) Set.univ none
    (.op (.customCall (Pipeline.entry (0 : Fin 1)) ()) .ret : Prog (TpuEff nD τ sig (Elt F) (ΛP (F := F)) .tc) PUnit) Φ
  have hreg := Pipeline.RegionSeg.wp (pcfgs (F := F)) adm (pdats Vl) (none : HIx 1) cellOf_inj EP defs₀ 𝒱₀ (K (F := F)).L (K (F := F)).lev (region Vl) d none
    (fun _ h => nomatch h) .ret Φ
  refine .trans ?_ (hreg.trans hlift)
  rw [show (region Vl).pre d = iprop(unscopedBufs d (fun b => Vl (Proc.devRef .tc b)) ∗ idle d) from rfl,
    show (region Vl).post d = iprop(unscopedBufs d (fun b => withScores Vl (Proc.devRef .tc b)) ∗ idle d) from rfl,
    Pipeline.unscopedBufs_held, Pipeline.unscopedBufs_held]
  iintro ⟨Hl, Hb, Hh, Hi, Hg, Ht, Hk⟩
  isplitl [Hk]
  · iintro ⟨Hb, Hh, Hi⟩
    rw [wp_ret]
    imodintro
    iapply Hk
    isplitl [Hb]; · iexact Hb
    isplitl [Hh]; · iexact Hh
    iexact Hi
  isplitl [Hb]; · iexact Hb
  isplitl [Hh Hi]
  · isplitl [Hh] <;> iassumption
  isplitl [Hl]; · iexact Hl
  isplitl [Hg]; · iexact Hg
  iexact Ht

end Region

end Cert.Proof.Bag

end
-- ==== Proof.Run.lean ====
/-
  The whole program's run: the ghost state it starts from (`u₀`, `fund`), the host operations around the pooling call and
  the classifier call (`hmain`), and what every final memory holds (`run_main`): the arguments as at the start and the
  result at `logits` of them.
-/
module

public import proofs.«01_k».proof.Proof.Region
public import Idealize.ShloMosaic.Lib.SparseCore.Quiescent
public import Idealize.ShloMosaic.Lib.StableHlo.Run

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What the program computes -/

/-- The token ids with 78 columns of zeros to their right. -/
def padded (I : S4096x50.Idx → BitVec 32) : S4096x128.Idx → BitVec 32 :=
  pad S4096x128 ![0, 0] ![0, 78] ![0, 0] I (constantI S_ 32 0#32) pads_S4096x50_S4096x128_000_0780 h_S_

/-- The program's result. -/
def logits (I : S4096x50.Idx → BitVec 32) (E : S100000x128.Idx → Elt F .f32) (W : S128x1000.Idx → Elt F .f32) (b : S1000.Idx → Elt F .f32) :
    S4096x1000.Idx → Elt F .f32 :=
  transpose S4096x1000 [1, 0] (scores (transpose S1000x128 [1, 0] W transposes_S128x1000_S1000x128_1_0) (pooledAll E (padded I))
    (shapeCast S1000x1 b shapeCasts_S1000_S1000x1)) transposes_S1000x4096_S4096x1000_1_0

/-! ## The ghost state at the start -/

/-- The ghost state at the start: the handshakes' cells, the classifier's pipeline's cells, no transfer counted. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What each TensorCore is dealt: its pipeline's cells. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] [Named F] in
/-- Owning the handshakes' part and the pipeline's part together is owning each. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

section Main

variable (m : (ℓ : Loc nD τ sig) → Buf (Elt F) ℓ) (ρ : Dev nD → PrngReg)

/-- The token ids at the launch. -/
abbrev argI (d : Dev nD) : S4096x50.Idx → BitVec 32 := m ((SparseCore.T d).loc main_arg0)
/-- The table at the launch. -/
abbrev argE (d : Dev nD) : S100000x128.Idx → Elt F .f32 := m ((SparseCore.T d).loc main_arg1)
/-- The classifier's matrix at the launch. -/
abbrev argW (d : Dev nD) : S128x1000.Idx → Elt F .f32 := m ((SparseCore.T d).loc main_arg2)
/-- The classifier's offsets at the launch. -/
abbrev argB (d : Dev nD) : S1000.Idx → Elt F .f32 := m ((SparseCore.T d).loc main_arg3)

/-- The pooling call's record at the launch's arguments. -/
abbrev Pm : (K (F := F)).Pay (nD := nD) (Val := Elt F) (Name := ℕ) (U := UU) := P (argE m) (fun d => padded (argI m d)) fun d => m (oLoc d)

/-- The ghost state at the start deals each part its cells. -/
theorem fund : (ownU (u₀ (F := F)) : sProp 𝕄)
    ⊢ |={Set.univ}=> iprop(BI.own (EH (initOf (K (F := F)).hsCells (K (F := F)).hsToks)) ∗ bigSep Finset.univ G
        ∗ bigSep Finset.univ fun thr : Thread nD τ => bigSep Finset.univ fun q : Fin 1 => (Pm m).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hc, Ht⟩
  imodintro
  isplitl [HH]; · iexact HH
  isplitl [Hc Ht]
  · have h : ∀ f : Dev nD → Fin 1 → sProp 𝕄, (bigSep Finset.univ fun c => bigSep Finset.univ fun p => f c p) = bigSep Finset.univ fun c => f c 0 :=
      fun f => bigSep_congr fun c _ => bigSep_univ_of_subsingleton (0 : Fin 1)
    have hG : iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c))
        ⊢ (bigSep Finset.univ G : sProp 𝕄) := by
      rw [h, h]
      exact Entails.of_eq (bigSep_sep' _ _ _).symm
    iapply hG
    isplitl [Hc] <;> iassumption
  rw [show (bigSep Finset.univ fun thr : Thread nD τ => bigSep Finset.univ fun q : Fin 1 => (Pm m).x q thr) = bigSep Finset.univ fun _ => (iprop(emp) : sProp 𝕄) from
    bigSep_congr fun _ _ => bigSep_univ_of_subsingleton (0 : Fin 1),
    show (bigSep Finset.univ fun _ : Thread nD τ => (iprop(emp) : sProp 𝕄)) = iprop(emp) from bigSep_emp_const _]
  iempintro

/-! ## The host operations -/

/-- One host operation on the unscoped buffers. -/
theorem wp_host (d : Dev nD) (op : HloOp τ sig (Elt F)) (hop : op.bufs ⊆ StableHlo.tcRefs τ sig) (hf : op.fresh = ∅) (W : Valuation τ sig (Elt F)) (Φ : PUnit → sProp 𝕄) :
    iprop(boundary (SparseCore.T d) ∗ StableHlo.held (SparseCore.T d) (Pipeline.ucRefs τ sig) W
        ∗ (iprop(boundary (SparseCore.T d) ∗ StableHlo.held (SparseCore.T d) (Pipeline.ucRefs τ sig) (op.result W)) -∗ Φ ⟨⟩))
      ⊢ wp frame (wpE ((K (F := F)).defs (D (F := F))) 𝒱 (SparseCore.T d) none) Set.univ (hlo rfl op fun _ => .ret ⟨⟩) Φ := by
  iintro ⟨Hb, Hh, Hk⟩
  iapply (StableHlo.wp_hlo_within 𝒱 (SparseCore.T d) none Set.univ (op := op) (Pipeline.sub_ucRefs op hop) (V := W) hf) $$ [Hb Hh]
  · isplitl [Hb] <;> iassumption
  iintro H
  rw [wp_ret]
  imodintro
  iapply Hk
  iexact H

/-- The host's zero. -/
abbrev opC : HloOp τ sig (Elt F) := StableHlo.nullary main_c (constantI S_ 32 0#32)
/-- The padding value, taken from that zero. -/
abbrev opU : HloOp τ sig (Elt F) := StableHlo.TRef.unary (.of main_c) main_call0.v0 id
/-- The padding of the ids. -/
abbrev opP : HloOp τ sig (Elt F) :=
  StableHlo.TRef.binary (.of main_arg0 : StableHlo.TRef sig ⟨S4096x50, .i32⟩) main_call0.v0 main_call0.v1 (fun x v => pad S4096x128 ![0, 0] ![0, 78] ![0, 0] x v pads_S4096x50_S4096x128_000_0780 h_S_)
/-- The transpose of the matrix. -/
abbrev opT : HloOp τ sig (Elt F) := StableHlo.unary main_arg2 main_v2
  ((transpose S1000x128 [1, 0] · transposes_S128x1000_S1000x128_1_0) : (⟨S128x1000, .f32⟩ : BufTy).Contents (Elt F) → (⟨S1000x128, .f32⟩ : BufTy).Contents (Elt F))
/-- The offsets as a column. -/
abbrev opR : HloOp τ sig (Elt F) := StableHlo.reshape main_arg3 main_v3 (rfl : (.f32 : EltTy) = .f32) shapeCasts_S1000_S1000x1
/-- The transpose of the scores. -/
abbrev opL : HloOp τ sig (Elt F) := StableHlo.unary main_v4 main_v5
  ((transpose S4096x1000 [1, 0] · transposes_S1000x4096_S4096x1000_1_0) : (⟨S1000x4096, .f32⟩ : BufTy).Contents (Elt F) → (⟨S4096x1000, .f32⟩ : BufTy).Contents (Elt F))

/-- The buffers before the pooling call. -/
def V₁ (d : Dev nD) : Valuation τ sig (Elt F) := StableHlo.after [opC, opU, opP] fun b => m (d, b)
/-- The buffers after the pooling call. -/
def V₂ (d : Dev nD) : Valuation τ sig (Elt F) := Function.update (V₁ m d) (Proc.devRef .tc main_v1) (pooledAll (argE m d) (padded (argI m d)))
/-- The buffers before the classifier call. -/
def V₃ (d : Dev nD) : Valuation τ sig (Elt F) := StableHlo.after [opT, opR] (V₂ m d)
/-- The buffers at the end. -/
def V₅ (d : Dev nD) : Valuation τ sig (Elt F) := StableHlo.after [opL] (withScores (V₃ m d))

/-- Before the pooling call the padded ids stand in its operand. -/
theorem V₁_ids (d : Dev nD) : V₁ m d (Proc.devRef .tc main_v0) = padded (argI m d) := by
  unfold V₁; after_results_simp; rfl

/-- The padding writes three buffers and no other. -/
theorem V₁_of (d : Dev nD) (r : Ref sig .tc) (h1 : r ≠ main_c) (h2 : r ≠ main_call0_v0) (h3 : r ≠ main_v0) : V₁ m d (Proc.devRef .tc r) = m ((SparseCore.T d).loc r) :=
  (StableHlo.result_of_writes_ne opP _ main_v0 r rfl h3).trans ((StableHlo.result_of_writes_ne opU _ main_call0_v0 r rfl h2).trans
    (StableHlo.result_of_writes_ne opC _ main_c r rfl h1))

/-- The pooling call writes the pooled rows and nothing else. -/
theorem V₂_of (d : Dev nD) (r : Ref sig .tc) (h : r ≠ main_v1) : V₂ m d (Proc.devRef .tc r) = V₁ m d (Proc.devRef .tc r) :=
  Function.update_of_ne (fun e => h (Proc.devRef_injective _ e)) _ _

/-- The two operations after it write two buffers and no other. -/
theorem V₃_of (d : Dev nD) (r : Ref sig .tc) (h1 : r ≠ main_v2) (h2 : r ≠ main_v3) : V₃ m d (Proc.devRef .tc r) = V₂ m d (Proc.devRef .tc r) :=
  (StableHlo.result_of_writes_ne opR _ main_v3 r rfl h2).trans (StableHlo.result_of_writes_ne opT _ main_v2 r rfl h1)

/-- The classifier call and the last transpose write two buffers and no other. -/
theorem V₅_of (d : Dev nD) (r : Ref sig .tc) (h1 : r ≠ main_v4) (h2 : r ≠ main_v5) : V₅ m d (Proc.devRef .tc r) = V₃ m d (Proc.devRef .tc r) :=
  (StableHlo.result_of_writes_ne opL _ main_v5 r rfl h2).trans (withScores_ne (V₃ m d) r h1)

/-- The arguments stay as they were. -/
theorem V₅_arg (d : Dev nD) (r : Ref sig .tc) (h : r = main_arg0 ∨ r = main_arg1 ∨ r = main_arg2 ∨ r = main_arg3) : V₅ m d (Proc.devRef .tc r) = m ((SparseCore.T d).loc r) := by
  rcases h with rfl | rfl | rfl | rfl <;>
    exact (V₅_of m d _ (by decide) (by decide)).trans ((V₃_of m d _ (by decide) (by decide)).trans ((V₂_of m d _ (by decide)).trans
      (V₁_of m d _ (by decide) (by decide) (by decide))))

/-- The classifier call finds the transposed matrix. -/
theorem V₃_W (d : Dev nD) : vW (V₃ m d) = transpose S1000x128 [1, 0] (argW m d) transposes_S128x1000_S1000x128_1_0 := by
  have h : V₂ m d (Proc.devRef .tc main_arg2) = argW m d := (V₂_of m d _ (by decide)).trans (V₁_of m d _ (by decide) (by decide) (by decide))
  rw [← h]; unfold vW V₃; after_results_simp

/-- The classifier call finds the offsets as a column. -/
theorem V₃_B (d : Dev nD) : vB (V₃ m d) = shapeCast S1000x1 (argB m d) shapeCasts_S1000_S1000x1 := by
  have h : V₂ m d (Proc.devRef .tc main_arg3) = argB m d := (V₂_of m d _ (by decide)).trans (V₁_of m d _ (by decide) (by decide) (by decide))
  rw [← h]; unfold vB V₃; after_results_simp; rfl

/-- The classifier call finds the pooled rows. -/
theorem V₃_P (d : Dev nD) : vP (V₃ m d) = pooledAll (argE m d) (padded (argI m d)) :=
  (V₃_of m d main_v1 (by decide) (by decide)).trans (Function.update_self (Proc.devRef .tc main_v1) _ _)

/-- The result. -/
theorem V₅_out (d : Dev nD) : V₅ m d (Proc.devRef .tc main_v5) = logits (argI m d) (argE m d) (argW m d) (argB m d) := by
  unfold logits
  rw [← V₃_W, ← V₃_B, ← V₃_P]
  have h : withScores (V₃ m d) (Proc.devRef .tc main_v4) = scores (vW (V₃ m d)) (vP (V₃ m d)) (vB (V₃ m d)) := Function.update_self (Proc.devRef .tc main_v4) _ _
  rw [← h]; unfold V₅; after_results_simp

/-! ## The pooling call's buffers among the others -/

/-- The pooling call's operands and result. -/
abbrev poolRefs : Finset (DevRef τ sig) := {Proc.devRef .tc main_v0, Proc.devRef .tc main_arg1, Proc.devRef .tc main_v1}

/-- They are among the buffers that live throughout. -/
theorem poolRefs_sub : poolRefs ⊆ Pipeline.ucRefs τ sig := by
  intro b hb
  simp only [poolRefs, Finset.mem_insert, Finset.mem_singleton] at hb
  rcases hb with rfl | rfl | rfl <;> exact Finset.mem_filter.mpr ⟨Finset.mem_map_of_mem _ (Finset.mem_univ _), by decide⟩

/-- Holding them is holding what the call is handed. -/
theorem held_pool (d : Dev nD) (W : Valuation τ sig (Elt F)) :
    (StableHlo.held (SparseCore.T d) poolRefs W : sProp 𝕄)
      = CallIO (W (Proc.devRef .tc main_arg1)) (W (Proc.devRef .tc main_v0)) d (W (Proc.devRef .tc main_v1)) := by
  unfold StableHlo.held poolRefs
  rw [SparseCore.bigSep_insert' (by decide), SparseCore.bigSep_insert' (by decide), bigSep_singleton]

/-- The other buffers are the same before the call and after it. -/
theorem rest_pool (d : Dev nD) :
    (StableHlo.held (SparseCore.T d) (Pipeline.ucRefs τ sig \ poolRefs) (V₁ m d) : sProp 𝕄) = StableHlo.held (SparseCore.T d) (Pipeline.ucRefs τ sig \ poolRefs) (V₂ m d) :=
  StableHlo.held_congr _ fun b hb => (Function.update_of_ne (fun e => (Finset.mem_sdiff.mp hb).2 (by rw [e]; simp [poolRefs])) _ _).symm

/-- The buffers before the call are what its SparseCores are handed. -/
theorem pool_before (d : Dev nD) :
    (StableHlo.held (SparseCore.T d) poolRefs (V₁ m d) : sProp 𝕄) = bigSep Finset.univ fun c : Fin ((K (F := F)).nCore 0) => (Pm m).st 0 d c := by
  rw [st_eq, held_pool, V₁_ids, V₁_of m d main_arg1 (by decide) (by decide) (by decide), V₁_of m d main_v1 (by decide) (by decide) (by decide)]

/-- What its SparseCores hand back are the buffers after the call. -/
theorem pool_after (d : Dev nD) :
    (bigSep Finset.univ fun c : Fin ((K (F := F)).nCore 0) => (Pm m).dn 0 d c) = (StableHlo.held (SparseCore.T d) poolRefs (V₂ m d) : sProp 𝕄) := by
  rw [dn_eq, held_pool, V₂_of m d main_v0 (by decide), V₁_ids, V₂_of m d main_arg1 (by decide), V₁_of m d main_arg1 (by decide) (by decide) (by decide),
    show V₂ m d (Proc.devRef .tc main_v1) = pooledAll (argE m d) (padded (argI m d)) from Function.update_self (Proc.devRef .tc main_v1) _ _]

/-! ## The TensorCore's program -/

/-- What the program leaves to be read: every unscoped buffer at its final contents. -/
abbrev FIN (d : Dev nD) : sProp 𝕄 := StableHlo.held (SparseCore.T d) (Pipeline.ucRefs τ sig) (V₅ m d)

/-- The TensorCore's program runs from the launch's buffers to the final ones. -/
theorem hmain (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (fun b => m (d, b)) from
    Pipeline.unscopedBufs_held d (fun b => m (d, b))]
  simp only [main, fn_pad.body, wp_bind, wp_pure]
  iintro ⟨#Hctx, Hst, ⟨Hb, Hh, Hts, -⟩, Hc, Ht⟩
  iapply (wp_host d opC (StableHlo.nullary_bufs_sub ..) rfl _ _)
  isplitl [Hb]; · iexact Hb
  isplitl [Hh]; · iexact Hh
  iintro ⟨Hb, Hh⟩
  iapply (wp_host d opU (StableHlo.unary_bufs_sub ..) rfl _ _)
  isplitl [Hb]; · iexact Hb
  isplitl [Hh]; · iexact Hh
  iintro ⟨Hb, Hh⟩
  iapply (wp_host d opP (StableHlo.binary_bufs_sub ..) rfl _ _)
  isplitl [Hb]; · iexact Hb
  isplitl [Hh]; · iexact Hh
  iintro ⟨Hb, Hh⟩
  imodintro
  -- the pooling call
  ihave H := (show (StableHlo.held (SparseCore.T d) (Pipeline.ucRefs τ sig) (opP.result (opU.result (opC.result fun b => m (d, b)))) : sProp 𝕄) ⊢ _ from
    Entails.of_eq (StableHlo.held_sub_split (SparseCore.T d) poolRefs_sub (V₁ m d))) $$ Hh
  icases H with ⟨Hp, Hr⟩
  iapply ((K (F := F)).wp_run (D (F := F)) 𝒱 (EH := EH) (P := Pm m) κ d 0) $$ [Hst Hp Hr Hb Hts Hc Ht]
  isplitr; · iexact Hctx
  isplitl [Hst]; · iexact Hst
  isplitl [Hp]
  · iapply (Entails.of_eq (pool_before m d)); iexact Hp
  iintro ⟨Hst, Hdn⟩
  ihave Hh := (Entails.of_eq (StableHlo.held_sub_split (SparseCore.T d) poolRefs_sub (V₂ m d)).symm) $$ [Hdn Hr]
  · isplitl [Hdn]
    · iapply (Entails.of_eq (pool_after m d)); iexact Hdn
    · iapply (Entails.of_eq (rest_pool m d)); iexact Hr
  iapply (wp_host d opT (StableHlo.unary_bufs_sub ..) rfl _ _)
  isplitl [Hb]; · iexact Hb
  isplitl [Hh]; · iexact Hh
  iintro ⟨Hb, Hh⟩
  iapply (wp_host d opR (StableHlo.reshape_bufs_sub ..) rfl _ _)
  isplitl [Hb]; · iexact Hb
  isplitl [Hh]; · iexact Hh
  iintro ⟨Hb, Hh⟩
  -- the classifier call
  unfold SparseCore.Cfg.tcSt SparseCore.Cfg.ctx
  icases Hst with ⟨⟨%W, %hW, HO⟩, Hst⟩
  icases Hctx with ⟨Hlev, -⟩
  iapply (wp_classify (V₃ m d) d _)
  isplitr; · iexact Hlev
  isplitl [Hb]; · iexact Hb
  isplitl [Hh]; · iexact Hh
  isplitl [HO]
  · iexists W
    isplitr; · ipureintro; exact hW
    rw [← SparseCore.Cfg.Otc_end (K := K (F := F)) d le_rfl]
    iexact HO
  isplitl [Hc]; · iexact Hc
  isplitl [Ht]; · iexact Ht
  iintro ⟨Hb, Hh, ⟨%W', %hW', HO⟩⟩
  iapply (wp_host d opL (StableHlo.unary_bufs_sub ..) rfl _ _)
  isplitl [Hb]; · iexact Hb
  isplitl [Hh]; · iexact Hh
  iintro ⟨Hb, Hh⟩
  imodintro
  isplitl [HO Hst]
  · isplitl [HO]
    · iexists W'
      isplitr; · ipureintro; exact hW'
      rw [SparseCore.Cfg.Otc_end (K := K (F := F)) d le_rfl]
      iexact HO
    iexact Hst
  isplitl [Hh]; · iexact Hh
  isplitl [Hb] <;> iassumption

/-! ## The final memory -/

omit [FloatOps F] [Named F] in
/-- Buffers held are what the memory holds. -/
theorem held_read (t : Thread nD τ) (W : Valuation τ sig (Elt F)) (s' : Phys nD τ sig (Elt F)) (B : Finset (DevRef τ sig)) :
    iprop(StableHlo.held t B W ∗ SI s') ⊢ (⌜∀ b ∈ B, s'.mem.mem (t.1, b) = W b⌝ : sProp 𝕄) := by
  classical
  induction B using Finset.induction_on with
  | empty => iintro -; ipureintro; simp
  | insert b B hb ih =>
    have hs : (StableHlo.held t (insert b B) W : sProp 𝕄) = iprop(((t.1, b) ↦{fullShare} W b) ∗ StableHlo.held t B W) := SparseCore.bigSep_insert' hb
    rw [hs]
    iintro ⟨⟨H1, HB⟩, HSI⟩
    ihave H := (persistent_entails_right (SI_pointsTo_agree (st := s') (ℓ := (t.1, b)) (I := Finset.univ) (q := fullShare) (f := W b))) $$ [HSI H1]
    · isplitl [HSI] <;> iassumption
    icases H with ⟨%h1, HSI, -⟩
    ihave H := ih $$ [HB HSI]
    · isplitl [HB] <;> iassumption
    icases H with %h2
    ipureintro
    intro x hx
    rcases Finset.mem_insert.mp hx with rfl | hx
    · exact funext fun i => h1 i (Finset.mem_univ i)
    · exact h2 x hx

/-- A final memory: the arguments as at the start, the result at the logits. -/
def Final (d : Dev nD) (μ : (ℓ : Loc nD τ sig) → Buf (Elt F) ℓ) : Prop :=
  μ ((SparseCore.T d).loc main_v5) = logits (argI m d) (argE m d) (argW m d) (argB m d)
    ∧ μ ((SparseCore.T d).loc main_arg0) = m ((SparseCore.T d).loc main_arg0) ∧ μ ((SparseCore.T d).loc main_arg1) = m ((SparseCore.T d).loc main_arg1)
    ∧ μ ((SparseCore.T d).loc main_arg2) = m ((SparseCore.T d).loc main_arg2) ∧ μ ((SparseCore.T d).loc main_arg3) = m ((SparseCore.T d).loc main_arg3)

/-- Holding the final buffers, the memory is final. -/
theorem hfin (d : Dev nD) (s' : Phys nD τ sig (Elt F)) : iprop(FIN m d ∗ SI s') ⊢ (⌜Final m d s'.mem.mem⌝ : sProp 𝕄) := by
  refine (held_read (SparseCore.T d) (V₅ m d) s' _).trans (Laws.pure_mono fun h => ?_)
  have hu (r : Ref sig .tc) (hr : ¬ (Proc.devRef (τ := τ) .tc r).isScoped) : s'.mem.mem ((SparseCore.T d).loc r) = V₅ m d (Proc.devRef .tc r) :=
    h _ (Finset.mem_filter.mpr ⟨Finset.mem_map_of_mem _ (Finset.mem_univ _), hr⟩)
  exact ⟨(hu main_v5 (by decide)).trans (V₅_out m d), (hu main_arg0 (by decide)).trans (V₅_arg m d _ (by simp)), (hu main_arg1 (by decide)).trans (V₅_arg m d _ (by simp)),
    (hu main_arg2 (by decide)).trans (V₅_arg m d _ (by simp)), (hu main_arg3 (by decide)).trans (V₅_arg m d _ (by simp))⟩

/-- Every run of the program ends, with every counter at zero and each device's memory final. -/
theorem run_main [∀ e, Nonempty (Elt F e)] (hids : ∀ d x, (padded (argI m d) x).toNat < 100000) :
    θ_run (Cert.KernelIdeal.defs (F := F)) (Cert.KernelIdeal.threads (F := F)) ⟨m, fun _ => 0, ρ⟩ fun r => (∀ d, Final m d r.2.mem) ∧ r.2.sem = fun _ => 0 :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl _ _ _ hids)
    (fun q _ => match q with | 0 => SparseCore.Cfg.VecSplit.of_plain (vecSplit _ _ _))
    m ρ main G (FIN m) (u₀ (F := F)) (sep_elim_left.trans (fund m)) (hmain m ρ) (fun d s' => Final m d s'.mem.mem) (hfin m) _ (fun _ h hz => ⟨h, hz⟩)

end Main

end Cert.Proof.Bag

end
-- ==== Proof.Value.lean ====
/-
  What the kernel computes, read over the extended reals. Ids the precondition allows are row numbers of the table
  (`ids_lt`, `padded_lt`), and the kernel's result is the plain formula `meanScores`: the mean of the listed rows, times
  the weights, plus the bias (`logits_eq`).
-/
module

public import proofs.«01_k».proof.Proof.Run
public import proofs.«01_k».proof.Proof.Gen.Pre_in_range
public import Idealize.ShloMosaic.Lib.MatmulPlain
public import Idealize.ShloMosaic.Lib.KernelVsHost
public import Idealize.ShloMosaic.Lib.IdealHost
public import Idealize.ShloMosaic.Lib.ReduceAll
public import Idealize.ShloMosaic.Lib.ValueLayout

@[expose] public section

noncomputable section

namespace Cert.Proof.Bag

open Cert.KernelIdeal Cert.KernelIdeal.Gen

open Idealize.ShloMosaic
open scoped BigOperators

/-! ## Ids in range -/

/-- A word that is at least 0 and less than 100000, read signed, is a row number of the table. -/
theorem word_lt (v : BitVec 32) (h : IntOp.andi (IntOp.cmpi .sge v 0#32) (IntOp.cmpi .slt v 100000#32) = 1#1) : v.toNat < 100000 := by
  have hb : ∀ p q : Bool, IntOp.andi (BitVec.ofBool p) (BitVec.ofBool q) = 1#1 → p = true ∧ q = true := by decide
  have ⟨h0, h1⟩ := hb _ _ h
  have h0 : (0 : Int) ≤ v.toInt := by simpa [BitVec.sle_eq_decide] using h0
  have h1 : v.toInt < 100000 := by simpa [BitVec.slt_eq_decide] using h1
  rw [BitVec.toInt_eq_toNat_cond] at h0 h1
  omega

/-- Where the precondition holds, every id is a row number of the table. -/
theorem ids_lt {F : FTy → Type} [FloatOps F] (I : S4096x50.Idx → BitVec 32) (E : S100000x128.Idx → Elt F .f32) (W : S128x1000.Idx → Elt F .f32)
    (b : S1000.Idx → Elt F .f32) (h : Cert.Pre_in_range.fn (F := F) I E W b = fun _ => 1#1) (x : S4096x50.Idx) : (I x).toNat < 100000 :=
  haveI : Subsingleton Cert.Pre_in_range.S_.Idx := ⟨fun _ _ => funext fun a => a.elim0⟩
  word_lt _ (Host.reduce_andi_all _ _ _ _ ix0 (congrFun h ix0) x)

/-- The first 50 columns of the padded ids are the ids. -/
theorem padded_ids (I : S4096x50.Idx → BitVec 32) (e : Fin 4096) (s : Fin 50) : padded I (ix2 e (col s.val)) = I (ix2 e s) := by
  unfold padded
  refine pad_apply_of_inside _ _ _ _ _ _ _ _ (ix2 e s) fun a => ?_
  match a with
  | ⟨0, _⟩ => show e.val = 0 + e.val * 1; omega
  | ⟨1, _⟩ => show s.val % 128 = 0 + s.val * 1; omega

/-- Padded ids are row numbers of the table too, the padding being row 0. -/
theorem padded_lt (I : S4096x50.Idx → BitVec 32) (h : ∀ x, (I x).toNat < 100000) (x : S4096x128.Idx) : (padded I x).toNat < 100000 := by
  unfold padded pad
  split
  · exact h _
  · decide

/-! ## The formula -/

/-- The mean of the rows listed for each of the 4096 entries, times the weights, plus the bias. -/
def meanScores (I : S4096x50.Idx → BitVec 32) (E : S100000x128.Idx → EReal) (W : S128x1000.Idx → EReal) (b : S1000.Idx → EReal) (e : Fin 4096) (k : Fin 1000) : EReal :=
  (∑ c : Fin 128, (∑ s : Fin 50, E (ix2 (rowIx (I (ix2 e s))) c)) * ((50⁻¹ : ℝ) : EReal) * W (ix2 c k)) + b (ix1 k)

/-! ## The kernel -/

/-- Rows added up one after another are their sum. -/
theorem bag_eq_sum (E : S100000x128.Idx → EReal) (I : S4096x128.Idx → BitVec 32) (e : Fin 4096) (c : Fin 128) (n : ℕ) :
    bag (F := Ideal) E I e c n = ∑ s : Fin n, E (ix2 (rowIx (I (ix2 e (col s.val)))) c) := by
  induction n with
  | zero => exact Ideal.ofBits_zero_f32
  | succ n ih =>
    rw [Fin.sum_univ_castSucc]
    exact congrArg (· + _) ih

/-- The kernel's pooled rows: sums of the 50 listed rows. -/
theorem pooled_apply (E : S100000x128.Idx → EReal) (I : S4096x50.Idx → BitVec 32) (e : Fin 4096) (c : Fin 128) :
    pooledAll (F := Ideal) E (padded I) (ix2 e c) = ∑ s : Fin 50, E (ix2 (rowIx (I (ix2 e s))) c) := by
  refine (bag_eq_sum E (padded I) e c 50).trans (Finset.sum_congr rfl fun s _ => ?_)
  rw [padded_ids]

/-- The classifier's payload, entry by entry. -/
theorem block_apply (W1 : S1000x128.Idx → EReal) (X : S2048x128.Idx → EReal) (b1 : S1000x1.Idx → EReal) (k : Fin 1000) (r : Fin 2048) :
    k1_pay1 (F := Ideal) W1 X b1 (ix2 k r) = (∑ c : Fin 128, W1 (ix2 k c) * (X (ix2 r c) * ((50⁻¹ : ℝ) : EReal))) + b1 (ix2 k 0) := by
  unfold k1_pay1
  simp only [shapeCast_self]
  refine congrArg₂ (· + ·) ((Ideal.matmul_transposedRhs_apply none W1 _ _ k r).trans ?_) (broadcastTo_apply _ _ _ (ix2 k 0) fun a => ?_)
  · show Ideal.ofBits .f32 0x00000000#32 + _ = _
    rw [Ideal.ofBits_zero_f32, zero_add]
    rfl
  · match a with
    | ⟨0, _⟩ => rfl
    | ⟨1, _⟩ => rfl

/-- The kernel's result is the formula. -/
theorem logits_eq (I : S4096x50.Idx → BitVec 32) (E : S100000x128.Idx → EReal) (W : S128x1000.Idx → EReal) (b : S1000.Idx → EReal) :
    logits (F := Ideal) I E W b = fun y => meanScores I E W b (y 0) (y 1) := by
  suffices H : ∀ (e : Fin 4096) (k : Fin 1000), logits (F := Ideal) I E W b (ix2 e k) = meanScores I E W b e k from
    funext fun y => (congrArg _ (show y = ix2 (y 0) (y 1) from funext fun a => match a with | ⟨0, _⟩ => rfl | ⟨1, _⟩ => rfl)).trans (H (y 0) (y 1))
  intro e k
  unfold logits scores meanScores
  refine (ValueIdx.transpose_ix2_apply _ _ e k).trans ((block_apply _ _ _ _ _).trans (congrArg₂ (· + ·) (Finset.sum_congr rfl fun c _ => ?_) (shapeCast_apply _ _ _ (ix1 k) ?_)))
  · have hr : rowsAt (F := Ideal) (pooledAll E (padded I)) (e.val / 2048) (ix2 (Fin.ofNat 2048 e.val) c) = pooledAll (F := Ideal) E (padded I) (ix2 e c) :=
      congrArg (fun r => pooledAll (F := Ideal) E (padded I) (ix2 r c)) (Fin.ext (by show (2048 * (e.val / 2048) + e.val % 2048) % 4096 = e.val; omega))
    exact (congrArg₂ (· * ·) (ValueIdx.transpose_ix2_apply W _ k c) (congrArg (· * _) (hr.trans (pooled_apply E I e c)))).trans (mul_comm _ _)
  · rw [Shape.rowMajor_val_one, Shape.rowMajor_val_two]
    show k.val = k.val * 1 + 0
    omega

end Cert.Proof.Bag

end
-- ==== Proof.Reference.lean ====
/-
  What the reference computes, read over the extended reals: where every id is a row number of the table, its take is
  the plain lookup of rows (`taken_apply`), its mean their sum over 50 (`mean_apply`), and its result the formula
  `meanScores` (`reference_eq`).
-/
module

public import proofs.«01_k».proof.Proof.Value
public import proofs.«01_k».proof.Proof.Gen.ReferenceIdeal
public import Idealize.ShloMosaic.Lib.Pointwise.Reduce

@[expose] public section

noncomputable section

namespace Cert.Proof.Bag

open Cert.ReferenceIdeal Cert.ReferenceIdeal.Gen

open Idealize.ShloMosaic
open scoped BigOperators

/-- The ids the reference looks up: a negative one counted from the table's end. -/
def wrapped (I : S4096x50.Idx → BitVec 32) : S4096x50x1.Idx → BitVec 32 :=
  broadcastInDim S4096x50x1 ![0, 1] bcast_S4096x50_S4096x50x1_0_1
    (select (cmpi .slt I (broadcastInDim S4096x50 ![] bcast_S_S4096x50 (constantI S_ 32 0#32)))
      (addi I (broadcastInDim S4096x50 ![] bcast_S_S4096x50 (constantI S_ 32 100000#32))) I)

/-- The reference's take: the rows at the ids `w`, an undefined value where an id is no row number. -/
def taken (E : S100000x128.Idx → EReal) (w : S4096x50x1.Idx → BitVec 32) : S4096x50x128.Idx → EReal :=
  select (broadcastInDim S4096x50x128 ![0, 1] bcast_S4096x50_S4096x50x128_0_1
      (Host.reduce IntOp.andi
        (andi (cmpi .sge w (broadcastInDim S4096x50x1 ![] bcast_S_S4096x50x1 (constantI S_ 32 0#32)))
          (cmpi .sle w (broadcastInDim S4096x50x1 ![0, 1, 2] bcast_S1x1x1_S4096x50x1_0_1_2 (broadcastInDim S1x1x1 ![2] bcast_S1_S1x1x1_2 (constantI S1 32 99999#32)))))
        (constantI S_ 1 1#1) reducesTo_S4096x50x1_S4096x50_d2 h_S_))
    (Host.gather gather_S100000x128_S4096x50x1_S4096x50x128_2_0_n_n_0_2_1128 E w)
    (broadcastInDim S4096x50x128 ![] bcast_S_S4096x50x128 (constant (F := Ideal) S_ .f32 0x7FC00000#32))

/-- The reference's mean over the 50 rows. -/
def mean (X : S4096x50x128.Idx → EReal) : S4096x128.Idx → EReal :=
  Host.divf (F := Ideal) (φ := .f32) (Host.reduceAdd (F := Ideal) (φ := .f32) X (constant S_ .f32 0x00000000#32) reducesTo_S4096x50x128_S4096x128_d1 h_S_)
    (broadcastInDim S4096x128 ![] bcast_S_S4096x128 (constant S_ .f32 0x42480000#32))

/-- The reference's result. -/
def refScores (I : S4096x50.Idx → BitVec 32) (E : S100000x128.Idx → EReal) (W : S128x1000.Idx → EReal) (b : S1000.Idx → EReal) : S4096x1000.Idx → EReal :=
  addf (F := Ideal) (φ := .f32) (Host.dotGeneral (F := Ideal) (φ₁ := .f32) (φ₂ := .f32) dot_S4096x128_S128x1000_S4096x1000_1_0_0_1_n_n none (mean (taken E (wrapped I))) W)
    (broadcastInDim S4096x1000 ![0, 1] bcast_S1x1000_S4096x1000_0_1 (broadcastInDim S1x1000 ![1] bcast_S1000_S1x1000_1 b))

/-- A word below 100000 is not negative, at least 0 and at most 99999, read signed. -/
theorem word_in (v : BitVec 32) (h : v.toNat < 100000) :
    IntOp.cmpi .slt v 0#32 = 0#1 ∧ IntOp.andi (IntOp.cmpi .sge v 0#32) (IntOp.cmpi .sle v 99999#32) = 1#1 := by
  have hv : v.toInt = v.toNat := by rw [BitVec.toInt_eq_toNat_cond]; omega
  have h1 : v.slt 0#32 = false := by simp [BitVec.slt_eq_decide, hv]
  have h2 : (0#32).sle v = true := by simp [BitVec.sle_eq_decide, hv]
  have h3 : v.sle 99999#32 = true := by simp [BitVec.sle_eq_decide, hv]; omega
  simp only [IntOp.cmpi, h1, h2, h3]
  decide

/-- Ids in range are looked up as they are. -/
theorem wrapped_apply (I : S4096x50.Idx → BitVec 32) (h : ∀ x, (I x).toNat < 100000) (x : S4096x50x1.Idx) : wrapped I x = I (ix2 (x 0) (x 1)) := by
  refine (broadcastInDim_apply _ _ _ _ (ix2 (x 0) (x 1)) fun a => ?_).trans ?_
  · match a with
    | ⟨0, _⟩ => rfl
    | ⟨1, _⟩ => rfl
  · show Scalar.select (IntOp.cmpi .slt (I (ix2 (x 0) (x 1))) 0#32) _ _ = _
    rw [(word_in _ (h _)).1]
    rfl

/-- Rows looked up at ids in range. -/
theorem taken_apply (E : S100000x128.Idx → EReal) (w : S4096x50x1.Idx → BitVec 32) (h : ∀ x, (w x).toNat < 100000) (e : Fin 4096) (s : Fin 50) (c : Fin 128) :
    taken E w (ix3 e s c) = E (ix2 (rowIx (w (ix3 e s 0))) c) := by
  have hm {α : Type} (m : S4096x50.Idx → α) : broadcastInDim S4096x50x128 ![0, 1] bcast_S4096x50_S4096x50x128_0_1 m (ix3 e s c) = m (ix2 e s) :=
    broadcastInDim_apply _ _ _ _ _ fun a => match a with | ⟨0, _⟩ => rfl | ⟨1, _⟩ => rfl
  unfold taken select
  rw [hm, Host.reduce_andi_one _ _ _ _ _ rfl (by exact fun x => (word_in _ (h x)).2)]
  unfold Scalar.select Host.gather
  rw [if_pos (show (1#1 : BitVec 1) = 1 from rfl)]
  refine congrArg E (funext fun a => Fin.ext ?_)
  have hw := h (ix3 e s 0)
  have hi : (w (ix3 e s 0)).toInt = (w (ix3 e s 0)).toNat := by rw [BitVec.toInt_eq_toNat_cond]; omega
  have hsi (q : Fin 1) : gather_S100000x128_S4096x50x1_S4096x50x128_2_0_n_n_0_2_1128.siIdx (ix3 e s c) q = ix3 e s 0 :=
    funext fun b => match b with
      | ⟨0, _⟩ => rfl
      | ⟨1, _⟩ => rfl
      | ⟨2, _⟩ => Fin.ext (by show q.val = 0; omega)
  match a with
  | ⟨0, _⟩ =>
    show min (w (gather_S100000x128_S4096x50x1_S4096x50x128_2_0_n_n_0_2_1128.siIdx (ix3 e s c) (0 : Fin 1))).toInt.toNat (100000 - 1) + 0 + 0
      = (w (ix3 e s 0)).toNat % 100000
    rw [hsi, hi]; omega
  | ⟨1, _⟩ => show 0 + 0 + c.val = c.val; omega

/-- The pattern of 50 denotes 50. -/
theorem fifty : Ideal.ofBits .f32 0x42480000#32 = ((50 : ℝ) : EReal) := by
  simp [Ideal.ofBits, Ideal.ieee, -EReal.coe_mul]; norm_num

/-- The mean is the sum times 1/50. -/
theorem mean_apply (X : S4096x50x128.Idx → EReal) (e : Fin 4096) (c : Fin 128) : mean X (ix2 e c) = (∑ s : Fin 50, X (ix3 e s c)) * ((50⁻¹ : ℝ) : EReal) := by
  show Ideal.div (Ideal.hostReduceAdd _ X (Ideal.ofBits .f32 0x00000000#32) (ix2 e c)) (Ideal.ofBits .f32 0x42480000#32) = _
  rw [fifty, Ideal.div_coe (by norm_num), Ideal.ofBits_zero_f32, Ideal.hostReduceAdd_r3_a1, zero_add, one_div]
  rfl

/-- The reference's result is the formula. -/
theorem reference_eq (I : S4096x50.Idx → BitVec 32) (E : S100000x128.Idx → EReal) (W : S128x1000.Idx → EReal) (b : S1000.Idx → EReal) (h : ∀ x, (I x).toNat < 100000) :
    refScores I E W b = fun y => meanScores I E W b (y 0) (y 1) := by
  suffices H : ∀ (e : Fin 4096) (k : Fin 1000), refScores I E W b (ix2 e k) = meanScores I E W b e k from
    funext fun y => (congrArg _ (show y = ix2 (y 0) (y 1) from funext fun a => match a with | ⟨0, _⟩ => rfl | ⟨1, _⟩ => rfl)).trans (H (y 0) (y 1))
  intro e k
  unfold refScores meanScores
  rw [← matmul_zero_eq_dotGeneral]
  refine congrArg₂ (· + ·) ((Ideal.matmul_plain_apply none _ W _ e k).trans ?_) ?_
  · show Ideal.ofBits .f32 0x00000000#32 + _ = _
    rw [Ideal.ofBits_zero_f32, zero_add]
    refine Finset.sum_congr rfl fun c _ => ?_
    have ht (s : Fin 50) : taken E (wrapped I) (ix3 e s c) = E (ix2 (rowIx (I (ix2 e s))) c) := by
      rw [taken_apply E _ (fun x => by rw [wrapped_apply I h]; exact h _), wrapped_apply I h]
      rfl
    have hc := (mean_apply (taken E (wrapped I)) e c).trans (congrArg (· * ((50⁻¹ : ℝ) : EReal)) (Finset.sum_congr rfl fun s _ => ht s))
    exact congrArg (· * W (ix2 c k)) hc
  · refine (broadcastInDim_apply _ _ _ _ (ix2 0 k) fun a => ?_).trans (broadcastInDim_apply _ _ _ _ (ix1 k) fun a => ?_)
    · match a with
      | ⟨0, _⟩ => rfl
      | ⟨1, _⟩ => rfl
    · match a with
      | ⟨0, _⟩ => rfl

end Cert.Proof.Bag

end
-- ==== Proof.lean ====
/-
  The proof of `Cert.Claim`. The kernel's run, its result and the reference's result are proved in `Proof/`; here they
  are put together. The kernel as shipped and the kernel with its constant named are one program once the name denotes
  the constant's own bits (`bitsNamed`), so one run serves both.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.Proof.Bag

/-- Over bit patterns a named constant is the pattern it was printed with. -/
@[instance_reducible]
def bitsNamed : Named Bits where
  named _ _ _ bits := Scalar.ofBits _ bits

section
attribute [local instance] bitsNamed

/-- With the name so read, the bodies of the two programs agree: label by label, on each kind of processor. -/
theorem bodies_eq : Cert.Kernel.defs₀ (F := Bits) = Cert.KernelIdeal.defs₀ (F := Bits) := by
  funext p ℓ a
  match p, ℓ, a with
  | .scVector _ _, 0, _ => rfl
  | .scVector _ _, 1, _ => rfl
  | .scScalar _, 0, _ => rfl
  | .scScalar _, 1, _ => rfl
  | .tc, 0, _ => rfl
  | .tc, 1, (_, _) => rfl

/-- So do their tables, the launches and the pipeline included. -/
theorem tables_eq : Cert.Kernel.defs (F := Bits) = Cert.KernelIdeal.defs (F := Bits) :=
  congrArg (fun d => Cert.KernelIdeal.sc.defs (Pipeline.defs Cert.KernelIdeal.pcfgs d)) bodies_eq

/-- The kernel ends with its arguments unchanged and every counter at zero. -/
theorem frame_kernel : Cert.quiescent_Kernel := fun m ρ hpre => by
  rw [tables_eq]
  refine (θ_run (Cert.KernelIdeal.defs (F := Bits)) _ _).mono ?_
    (run_main (F := Bits) m ρ fun d => padded_lt _ (ids_lt _ _ _ _ (hpre d)))
  exact fun _ h => ⟨fun c => (h.1 c).2, h.2⟩

end

/-- The same of the kernel over the extended reals. -/
theorem frame_kernelIdeal : Cert.quiescent_KernelIdeal := fun m ρ hpre =>
  (θ_run Cert.KernelIdeal.defs _ _).mono (fun _ h => ⟨fun c => (h.1 c).2, h.2⟩)
    (run_main (F := Ideal) m ρ fun d => padded_lt _ (ids_lt _ _ _ _ (hpre d)))

/-- The reference ends with its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant denotes 1/50 and replaces the constant's own bits. -/
theorem preserves : Cert.preserves_Kernel_KernelIdeal :=
  IdealRules.named_const.statement Cert.KernelIdeal.κ "inv_s" .f32 0x3CA3D70A#32 ((50⁻¹ : ℝ) : EReal) rfl

/-- Kernel and reference end with the same result: both compute `meanScores` of the arguments. -/
theorem algebraic : Cert.algebraic_KernelIdeal_ReferenceIdeal := fun m ρ m' ρ' hpre hargs =>
  have hids (d : Dev Cert.KernelIdeal.nD) := ids_lt _ _ _ _ (hpre d)
  ⟨fun d => logits (F := Ideal) (argI m d) (argE m d) (argW m d) (argB m d),
    (θ_run Cert.KernelIdeal.defs _ _).mono (fun _ h => h.1) (run_main (F := Ideal) m ρ fun d => padded_lt _ (hids d)),
    (θ_run Cert.ReferenceIdeal.defs _ _).mono
      (fun _ h d => ⟨(h d).1.trans (by
        rw [(hargs d).1, (hargs d).2.1, (hargs d).2.2.1, (hargs d).2.2.2]
        exact (reference_eq _ _ _ _ (hids d)).trans (logits_eq _ _ _ _).symm), (h d).2⟩)
      (Cert.ReferenceIdeal.Value.run (F := Ideal) m' ρ')⟩

/-- All the claims. -/
theorem claim : Cert.Claim :=
  ⟨Cert.Kernel.Gen.facts, Cert.KernelIdeal.Gen.facts, Cert.ReferenceIdeal.Gen.facts, Cert.Pre_in_range.Gen.facts,
    frame_kernel, frame_kernelIdeal, frame_reference, fun m ρ _ => frame_reference m ρ trivial, preserves, algebraic⟩

end Cert.Proof

end
